-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x96x64x64 : Shape := ⟨4, ![2, 96, 64, 64]⟩
abbrev S2x1x64x64 : Shape := ⟨4, ![2, 1, 64, 64]⟩
abbrev S96x96 : Shape := ⟨2, ![96, 96]⟩
abbrev S96 : Shape := ⟨1, ![96]⟩
abbrev S32x96 : Shape := ⟨2, ![32, 96]⟩
abbrev S96x192 : Shape := ⟨2, ![96, 192]⟩
abbrev S_ : Shape := ⟨0, ![]⟩

class Facts : Prop where
  bcast_S_S2x96x64x64 : S_.BroadcastsInDim S2x96x64x64 (![] : Fin 0 → Fin S2x96x64x64.rank)
  reducesTo_S2x96x64x64_S_d0_1_2_3 : S2x96x64x64.ReducesTo [0, 1, 2, 3] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S32x96 : S_.BroadcastsInDim S32x96 (![] : Fin 0 → Fin S32x96.rank)
  reducesTo_S32x96_S_d0_1 : S32x96.ReducesTo [0, 1] S_
  bcast_S_S96x192 : S_.BroadcastsInDim S96x192 (![] : Fin 0 → Fin S96x192.rank)
  reducesTo_S96x192_S_d0_1 : S96x192.ReducesTo [0, 1] S_

variable [Facts]

def fn_part1 {F : FTy → Type} [FloatOps F] (main_arg7 : FVec F S96x192 .f32) (main_arg8 : FVec F S96 .f32) (main_v13 : IVec S_ 1) (main_v15 : IVec S32x96 1) (main_c_5 : IVec S_ 1) : IVec S_ 1 :=
  let main_v16 : IVec S_ 1 := (fun x v => Host.reduce IntOp.andi x v reducesTo_S32x96_S_d0_1 h_S_) main_v15 main_c_5
  let main_v17 : IVec S_ 1 := andi main_v13 main_v16
  let main_v18 : FVec F S96x192 .f32 := Host.absf main_arg7
  let main_cst_6 : FVec F S_ .f32 := constant S_ .f32 0x7F800000#32
  let main_v19 : FVec F S96x192 .f32 := broadcastInDim S96x192 ![] bcast_S_S96x192 main_cst_6
  let main_v20 : IVec S96x192 1 := cmpf .olt main_v18 main_v19
  let main_c_7 : IVec S_ 1 := constantI S_ 1 1#1
  let main_v21 : IVec S_ 1 := (fun x v => Host.reduce IntOp.andi x v reducesTo_S96x192_S_d0_1 h_S_) main_v20 main_c_7
  let main_v22 : IVec S_ 1 := andi main_v17 main_v21
  let main_cst_8 : FVec F S_ .f32 := constant S_ .f32 0x7F800000#32
  let main_v23 : FVec F S96 .f32 := broadcastInDim S96 ![] bcast_S_S96 main_cst_8
  let main_v24 : IVec S96 1 := cmpf .olt main_arg8 main_v23
  let main_c_9 : IVec S_ 1 := constantI S_ 1 1#1
  let main_v25 : IVec S_ 1 := (fun x v => Host.reduce IntOp.andi x v reducesTo_S96_S_d0 h_S_) main_v24 main_c_9
  let main_v26 : IVec S_ 1 := andi main_v22 main_v25
  let main_cst_10 : FVec F S_ .f32 := constant S_ .f32 0x00000000#32
  let main_v27 : FVec F S96 .f32 := broadcastInDim S96 ![] bcast_S_S96 main_cst_10
  let main_v28 : IVec S96 1 := cmpf .oge main_arg8 main_v27
  let main_c_11 : IVec S_ 1 := constantI S_ 1 1#1
  let main_v29 : IVec S_ 1 := (fun x v => Host.reduce IntOp.andi x v reducesTo_S96_S_d0 h_S_) main_v28 main_c_11
  let main_v30 : IVec S_ 1 := andi main_v26 main_v29
  main_v30

def fn {F : FTy → Type} [FloatOps F] (main_arg0 : FVec F S2x96x64x64 .f32) (main_arg1 : FVec F S2x1x64x64 .f32) (main_arg2 : FVec F S96x96 .f32) (main_arg3 : FVec F S96 .f32) (main_arg4 : FVec F S96 .f32) (main_arg5 : FVec F S32x96 .f32) (main_arg6 : FVec F S32x96 .f32) (main_arg7 : FVec F S96x192 .f32) (main_arg8 : FVec F S96 .f32) (main_arg9 : FVec F S96 .f32) : IVec S_ 1 :=
  let main_v0 : FVec F S2x96x64x64 .f32 := Host.absf main_arg0
  let main_cst : FVec F S_ .f32 := constant S_ .f32 0x7F800000#32
  let main_v1 : FVec F S2x96x64x64 .f32 := broadcastInDim S2x96x64x64 ![] bcast_S_S2x96x64x64 main_cst
  let main_v2 : IVec S2x96x64x64 1 := cmpf .olt main_v0 main_v1
  let main_c : IVec S_ 1 := constantI S_ 1 1#1
  let main_v3 : IVec S_ 1 := (fun x v => Host.reduce IntOp.andi x v reducesTo_S2x96x64x64_S_d0_1_2_3 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_cst_4 : FVec F S_ .f32 := constant S_ .f32 0xFF800000#32
  let main_v14 : FVec F S32x96 .f32 := broadcastInDim S32x96 ![] bcast_S_S32x96 main_cst_4
  let main_v15 : IVec S32x96 1 := cmpf .ogt main_arg6 main_v14
  let main_c_5 : IVec S_ 1 := constantI S_ 1 1#1
  fn_part1 (F := F) main_arg7 main_arg8 main_v13 main_v15 main_c_5
-- ==== Kernel.lean ====
abbrev S2x96x64x64 : Shape := ⟨4, ![2, 96, 64, 64]⟩
abbrev S2x1x64x64 : Shape := ⟨4, ![2, 1, 64, 64]⟩
abbrev S96x96 : Shape := ⟨2, ![96, 96]⟩
abbrev S96 : Shape := ⟨1, ![96]⟩
abbrev S32x96 : Shape := ⟨2, ![32, 96]⟩
abbrev S96x192 : Shape := ⟨2, ![96, 192]⟩
abbrev S2x96x4096 : Shape := ⟨3, ![2, 96, 4096]⟩
abbrev S2x1x4096 : Shape := ⟨3, ![2, 1, 4096]⟩
abbrev S1x96 : Shape := ⟨2, ![1, 96]⟩
abbrev S2x5x4096x1 : Shape := ⟨4, ![2, 5, 4096, 1]⟩
abbrev S8192x96 : Shape := ⟨2, ![8192, 96]⟩
abbrev S64x96 : Shape := ⟨2, ![64, 96]⟩
abbrev S1x96x4096 : Shape := ⟨3, ![1, 96, 4096]⟩
abbrev S96x4096 : Shape := ⟨2, ![96, 4096]⟩
abbrev S1x1x4096 : Shape := ⟨3, ![1, 1, 4096]⟩
abbrev S1x4096 : Shape := ⟨2, ![1, 4096]⟩
abbrev S4096x96 : Shape := ⟨2, ![4096, 96]⟩
abbrev S1x32 : Shape := ⟨2, ![1, 32]⟩
abbrev S8192x32 : Shape := ⟨2, ![8192, 32]⟩
abbrev S8192 : Shape := ⟨1, ![8192]⟩
abbrev S8192x1 : Shape := ⟨2, ![8192, 1]⟩
abbrev S4096x1 : Shape := ⟨2, ![4096, 1]⟩
abbrev S4096x32 : Shape := ⟨2, ![4096, 32]⟩
abbrev S32x1 : Shape := ⟨2, ![32, 1]⟩
abbrev S32 : Shape := ⟨1, ![32]⟩
abbrev S1x32x96 : Shape := ⟨3, ![1, 32, 96]⟩
abbrev S1 : Shape := ⟨1, ![1]⟩
abbrev S1x1x1 : Shape := ⟨3, ![1, 1, 1]⟩
abbrev S1x1 : Shape := ⟨2, ![1, 1]⟩
abbrev S32x32 : Shape := ⟨2, ![32, 32]⟩
abbrev S32x32x1 : Shape := ⟨3, ![32, 32, 1]⟩
abbrev S32x32x3 : Shape := ⟨3, ![32, 32, 3]⟩
abbrev S1x64 : Shape := ⟨2, ![1, 64]⟩
abbrev S8192x64 : Shape := ⟨2, ![8192, 64]⟩
abbrev S1x1x4096x1 : Shape := ⟨4, ![1, 1, 4096, 1]⟩
abbrev S2x20480 : Shape := ⟨2, ![2, 20480]⟩
abbrev S2x4096x5 : Shape := ⟨3, ![2, 4096, 5]⟩
abbrev S8192x5 : Shape := ⟨2, ![8192, 5]⟩
abbrev S64 : Shape := ⟨1, ![64]⟩

abbrev nBuf : Space → Nat
  | .hbm => 23
  | .vmem => 17
  | .smem => 0
  | _ => 0

abbrev bufTy : (tb : Table) → Fin (tcTables nBuf tb) → BufTy
  | .hbm, ⟨0, _⟩ => ⟨S2x96x64x64, .f32⟩
  | .hbm, ⟨1, _⟩ => ⟨S2x1x64x64, .f32⟩
  | .hbm, ⟨2, _⟩ => ⟨S96x96, .f32⟩
  | .hbm, ⟨3, _⟩ => ⟨S96, .f32⟩
  | .hbm, ⟨4, _⟩ => ⟨S96, .f32⟩
  | .hbm, ⟨5, _⟩ => ⟨S32x96, .f32⟩
  | .hbm, ⟨6, _⟩ => ⟨S32x96, .f32⟩
  | .hbm, ⟨7, _⟩ => ⟨S96x192, .f32⟩
  | .hbm, ⟨8, _⟩ => ⟨S96, .f32⟩
  | .hbm, ⟨9, _⟩ => ⟨S96, .f32⟩
  | .hbm, ⟨10, _⟩ => ⟨S2x96x4096, .f32⟩
  | .hbm, ⟨11, _⟩ => ⟨S2x1x4096, .f32⟩
  | .hbm, ⟨12, _⟩ => ⟨S1x96, .f32⟩
  | .hbm, ⟨13, _⟩ => ⟨S1x96, .f32⟩
  | .hbm, ⟨14, _⟩ => ⟨S2x5x4096x1, .i32⟩
  | .hbm, ⟨15, _⟩ => ⟨S8192x96, .f32⟩
  | .hbm, ⟨16, _⟩ => ⟨S64x96, .f32⟩
  | .hbm, ⟨17, _⟩ => ⟨S2x20480, .i32⟩
  | .hbm, ⟨18, _⟩ => ⟨S2x4096x5, .i32⟩
  | .hbm, ⟨19, _⟩ => ⟨S8192x5, .i32⟩
  | .hbm, ⟨20, _⟩ => ⟨S1x96, .f32⟩
  | .hbm, ⟨21, _⟩ => ⟨S1x96, .f32⟩
  | .hbm, ⟨22, _⟩ => ⟨S2x96x4096, .f32⟩
  | .local _ .vmem, ⟨0, _⟩ => ⟨S2x96x4096, .f32⟩
  | .local _ .vmem, ⟨1, _⟩ => ⟨S2x1x4096, .f32⟩
  | .local _ .vmem, ⟨2, _⟩ => ⟨S96x96, .f32⟩
  | .local _ .vmem, ⟨3, _⟩ => ⟨S1x96, .f32⟩
  | .local _ .vmem, ⟨4, _⟩ => ⟨S1x96, .f32⟩
  | .local _ .vmem, ⟨5, _⟩ => ⟨S32x96, .f32⟩
  | .local _ .vmem, ⟨6, _⟩ => ⟨S32x96, .f32⟩
  | .local _ .vmem, ⟨7, _⟩ => ⟨S2x5x4096x1, .i32⟩
  | .local _ .vmem, ⟨8, _⟩ => ⟨S8192x96, .f32⟩
  | .local _ .vmem, ⟨9, _⟩ => ⟨S64x96, .f32⟩
  | .local _ .vmem, ⟨10, _⟩ => ⟨S8192x96, .f32⟩
  | .local _ .vmem, ⟨11, _⟩ => ⟨S64x96, .f32⟩
  | .local _ .vmem, ⟨12, _⟩ => ⟨S96x192, .f32⟩
  | .local _ .vmem, ⟨13, _⟩ => ⟨S8192x5, .i32⟩
  | .local _ .vmem, ⟨14, _⟩ => ⟨S1x96, .f32⟩
  | .local _ .vmem, ⟨15, _⟩ => ⟨S1x96, .f32⟩
  | .local _ .vmem, ⟨16, _⟩ => ⟨S2x96x4096, .f32⟩
  | _, _ => ⟨S2x96x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16

abbrev nD : Nat := 1
abbrev τ : Topo := Topo.v7x

variable {F : FTy → Type} [FloatOps F]

abbrev grid0 : Pipeline.Grid := .none

abbrev stage0_0 : Fin 1 → Memref sig .tc .vmem S2x96x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x5x4096x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := .none

abbrev stage1_0 : Fin 1 → Memref sig .tc .vmem S8192x96 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S96x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8192x5 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S2x96x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== ReferenceIdeal.lean ====
abbrev S2x96x64x64 : Shape := ⟨4, ![2, 96, 64, 64]⟩
abbrev S2x1x64x64 : Shape := ⟨4, ![2, 1, 64, 64]⟩
abbrev S96x96 : Shape := ⟨2, ![96, 96]⟩
abbrev S96 : Shape := ⟨1, ![96]⟩
abbrev S32x96 : Shape := ⟨2, ![32, 96]⟩
abbrev S96x192 : Shape := ⟨2, ![96, 192]⟩
abbrev S_ : Shape := ⟨0, ![]⟩
abbrev S2x64x64x96 : Shape := ⟨4, ![2, 64, 64, 96]⟩
abbrev S1x96x1x1 : Shape := ⟨4, ![1, 96, 1, 1]⟩
abbrev S2x96x4096 : Shape := ⟨3, ![2, 96, 4096]⟩
abbrev S2x4096x96 : Shape := ⟨3, ![2, 4096, 96]⟩
abbrev S2x4096x1x96 : Shape := ⟨4, ![2, 4096, 1, 96]⟩
abbrev S1x1x32x96 : Shape := ⟨4, ![1, 1, 32, 96]⟩
abbrev S2x4096x32x96 : Shape := ⟨4, ![2, 4096, 32, 96]⟩
abbrev S2x4096x32 : Shape := ⟨3, ![2, 4096, 32]⟩
abbrev S2x32x4096 : Shape := ⟨3, ![2, 32, 4096]⟩
abbrev S2x4096 : Shape := ⟨2, ![2, 4096]⟩
abbrev S2x1x4096 : Shape := ⟨3, ![2, 1, 4096]⟩
abbrev S2x4096x32x1 : Shape := ⟨4, ![2, 4096, 32, 1]⟩
abbrev S2x32x96 : Shape := ⟨3, ![2, 32, 96]⟩
abbrev S2x32 : Shape := ⟨2, ![2, 32]⟩
abbrev S2x32x1 : Shape := ⟨3, ![2, 32, 1]⟩
abbrev S2x3072 : Shape := ⟨2, ![2, 3072]⟩
abbrev S2 : Shape := ⟨1, ![2]⟩
abbrev S2x1 : Shape := ⟨2, ![2, 1]⟩
abbrev S2x96x32 : Shape := ⟨3, ![2, 96, 32]⟩
abbrev S4096x2x96 : Shape := ⟨3, ![4096, 2, 96]⟩
abbrev S4096x1x2x96 : Shape := ⟨4, ![4096, 1, 2, 96]⟩
abbrev S32x2x96 : Shape := ⟨3, ![32, 2, 96]⟩
abbrev S1x32x2x96 : Shape := ⟨4, ![1, 32, 2, 96]⟩
abbrev S4096x32x2x96 : Shape := ⟨4, ![4096, 32, 2, 96]⟩
abbrev S2x96x32x4096 : Shape := ⟨4, ![2, 96, 32, 4096]⟩
abbrev S2x96x32x64x64 : Shape := ⟨5, ![2, 96, 32, 64, 64]⟩
abbrev S2x32x64x64 : Shape := ⟨4, ![2, 32, 64, 64]⟩
abbrev S2x64x64x32 : Shape := ⟨4, ![2, 64, 64, 32]⟩
abbrev S2x64x64x5 : Shape := ⟨4, ![2, 64, 64, 5]⟩
abbrev S2x5x64x64 : Shape := ⟨4, ![2, 5, 64, 64]⟩
abbrev S2x1x1x1 : Shape := ⟨4, ![2, 1, 1, 1]⟩
abbrev S40960 : Shape := ⟨1, ![40960]⟩
abbrev S64x96 : Shape := ⟨2, ![64, 96]⟩
abbrev S40960x1 : Shape := ⟨2, ![40960, 1]⟩
abbrev S40960x96 : Shape := ⟨2, ![40960, 96]⟩
abbrev S2x4096x5x96 : Shape := ⟨4, ![2, 4096, 5, 96]⟩
abbrev S2x4096x5x192 : Shape := ⟨4, ![2, 4096, 5, 192]⟩
abbrev S2x192x4096x5 : Shape := ⟨4, ![2, 192, 4096, 5]⟩
abbrev S2x96x4096x5 : Shape := ⟨4, ![2, 96, 4096, 5]⟩

abbrev nBuf : Space → Nat
  | .hbm => 211
  | .vmem => 0
  | .smem => 0
  | _ => 0

abbrev hbmTy0_0 (i : Nat) : BufTy := match i % 128 with
  | 0 => ⟨S2x96x64x64, .f32⟩
  | 1 => ⟨S2x1x64x64, .f32⟩
  | 2 => ⟨S96x96, .f32⟩
  | 3 => ⟨S96, .f32⟩
  | 4 => ⟨S96, .f32⟩
  | 5 => ⟨S32x96, .f32⟩
  | 6 => ⟨S32x96, .f32⟩
  | 7 => ⟨S96x192, .f32⟩
  | 8 => ⟨S96, .f32⟩
  | 9 => ⟨S96, .f32⟩
  | 10 => ⟨S2x1x64x64, .f32⟩
  | 11 => ⟨S2x1x64x64, .f32⟩
  | 12 => ⟨S_, .f32⟩
  | 13 => ⟨S2x1x64x64, .f32⟩
  | 14 => ⟨S2x1x64x64, .f32⟩
  | 15 => ⟨S_, .f32⟩
  | 16 => ⟨S2x1x64x64, .f32⟩
  | 17 => ⟨S2x1x64x64, .f32⟩
  | 18 => ⟨S2x96x64x64, .f32⟩
  | 19 => ⟨S2x96x64x64, .f32⟩
  | 20 => ⟨S2x64x64x96, .f32⟩
  | 21 => ⟨S2x96x64x64, .f32⟩
  | 22 => ⟨S_, .f32⟩
  | 23 => ⟨S96, .f32⟩
  | 24 => ⟨S1x96x1x1, .f32⟩
  | 25 => ⟨S_, .f32⟩
  | 26 => ⟨S1x96x1x1, .f32⟩
  | 27 => ⟨S1x96x1x1, .f32⟩
  | 28 => ⟨S2x96x64x64, .f32⟩
  | 29 => ⟨S2x96x64x64, .f32⟩
  | 30 => ⟨S2x96x64x64, .f32⟩
  | 31 => ⟨S_, .f32⟩
  | 32 => ⟨S96, .f32⟩
  | 33 => ⟨S1x96x1x1, .f32⟩
  | 34 => ⟨S_, .f32⟩
  | 35 => ⟨S1x96x1x1, .f32⟩
  | 36 => ⟨S1x96x1x1, .f32⟩
  | 37 => ⟨S2x96x64x64, .f32⟩
  | 38 => ⟨S2x96x64x64, .f32⟩
  | 39 => ⟨S_, .f32⟩
  | 40 => ⟨S1x96x1x1, .f32⟩
  | 41 => ⟨S1x96x1x1, .f32⟩
  | 42 => ⟨S1x96x1x1, .f32⟩
  | 43 => ⟨S2x96x64x64, .f32⟩
  | 44 => ⟨S2x96x64x64, .f32⟩
  | 45 => ⟨S1x96x1x1, .f32⟩
  | 46 => ⟨S2x96x64x64, .f32⟩
  | 47 => ⟨S2x96x64x64, .f32⟩
  | 48 => ⟨S1x96x1x1, .f32⟩
  | 49 => ⟨S2x96x64x64, .f32⟩
  | 50 => ⟨S2x96x64x64, .f32⟩
  | 51 => ⟨S_, .f32⟩
  | 52 => ⟨S2x96x64x64, .f32⟩
  | 53 => ⟨S2x96x64x64, .f32⟩
  | 54 => ⟨S32x96, .f32⟩
  | 55 => ⟨S32x96, .f32⟩
  | 56 => ⟨S_, .f32⟩
  | 57 => ⟨S32x96, .f32⟩
  | 58 => ⟨S32x96, .f32⟩
  | 59 => ⟨S_, .f32⟩
  | 60 => ⟨S32x96, .f32⟩
  | 61 => ⟨S32x96, .f32⟩
  | 62 => ⟨S2x96x4096, .f32⟩
  | 63 => ⟨S2x4096x96, .f32⟩
  | 64 => ⟨S2x4096x1x96, .f32⟩
  | 65 => ⟨S1x1x32x96, .f32⟩
  | 66 => ⟨S2x4096x32x96, .f32⟩
  | 67 => ⟨S2x4096x32x96, .f32⟩
  | 68 => ⟨S2x4096x32x96, .f32⟩
  | 69 => ⟨S1x1x32x96, .f32⟩
  | 70 => ⟨S2x4096x32x96, .f32⟩
  | 71 => ⟨S2x4096x32x96, .f32⟩
  | 72 => ⟨S2x4096x32x96, .f32⟩
  | 73 => ⟨S_, .f32⟩
  | 74 => ⟨S2x4096x32, .f32⟩
  | 75 => ⟨S_, .f32⟩
  | 76 => ⟨S2x4096x32, .f32⟩
  | 77 => ⟨S2x4096x32, .f32⟩
  | 78 => ⟨S2x32x4096, .f32⟩
  | 79 => ⟨S_, .f32⟩
  | 80 => ⟨S2x4096, .f32⟩
  | 81 => ⟨S_, .f32⟩
  | 82 => ⟨S2x4096, .f32⟩
  | 83 => ⟨S2x4096, .f32⟩
  | 84 => ⟨S2x1x4096, .f32⟩
  | 85 => ⟨S2x32x4096, .f32⟩
  | 86 => ⟨S2x32x4096, .f32⟩
  | 87 => ⟨S2x32x4096, .f32⟩
  | 88 => ⟨S_, .f32⟩
  | 89 => ⟨S2x4096, .f32⟩
  | 90 => ⟨S2x1x4096, .f32⟩
  | 91 => ⟨S2x32x4096, .f32⟩
  | 92 => ⟨S2x32x4096, .f32⟩
  | 93 => ⟨S2x4096x32, .f32⟩
  | 94 => ⟨S2x4096x32x1, .f32⟩
  | 95 => ⟨S2x4096x32x96, .f32⟩
  | 96 => ⟨S2x4096x32x96, .f32⟩
  | 97 => ⟨S_, .f32⟩
  | 98 => ⟨S2x32x96, .f32⟩
  | 99 => ⟨S_, .f32⟩
  | 100 => ⟨S2x32, .f32⟩
  | 101 => ⟨S2x32x1, .f32⟩
  | 102 => ⟨S_, .f32⟩
  | 103 => ⟨S2x32x1, .f32⟩
  | 104 => ⟨S2x32x1, .f32⟩
  | 105 => ⟨S2x32x96, .f32⟩
  | 106 => ⟨S2x32x96, .f32⟩
  | 107 => ⟨S2x32x96, .f32⟩
  | 108 => ⟨S_, .f32⟩
  | 109 => ⟨S2x32, .f32⟩
  | 110 => ⟨S2x32x1, .f32⟩
  | 111 => ⟨S2x32x1, .f32⟩
  | 112 => ⟨S_, .f32⟩
  | 113 => ⟨S2x32x1, .f32⟩
  | 114 => ⟨S2x32x1, .f32⟩
  | 115 => ⟨S2x32x96, .f32⟩
  | 116 => ⟨S2x32x96, .f32⟩
  | 117 => ⟨S2x3072, .f32⟩
  | 118 => ⟨S2x3072, .f32⟩
  | 119 => ⟨S_, .f32⟩
  | 120 => ⟨S2, .f32⟩
  | 121 => ⟨S2x1, .f32⟩
  | 122 => ⟨S2x1, .f32⟩
  | 123 => ⟨S_, .f32⟩
  | 124 => ⟨S2x1, .f32⟩
  | 125 => ⟨S2x1, .f32⟩
  | 126 => ⟨S2x3072, .f32⟩
  | 127 => ⟨S2x3072, .f32⟩
  | _ => ⟨S2x96x64x64, .f32⟩

abbrev hbmTy0_1 (i : Nat) : BufTy := match i % 128 with
  | 0 => ⟨S2x96x32, .f32⟩
  | 1 => ⟨S2x96x4096, .f32⟩
  | 2 => ⟨S4096x2x96, .f32⟩
  | 3 => ⟨S4096x1x2x96, .f32⟩
  | 4 => ⟨S32x2x96, .f32⟩
  | 5 => ⟨S1x32x2x96, .f32⟩
  | 6 => ⟨S4096x32x2x96, .f32⟩
  | 7 => ⟨S4096x32x2x96, .f32⟩
  | 8 => ⟨S4096x32x2x96, .f32⟩
  | 9 => ⟨S2x96x32x4096, .f32⟩
  | 10 => ⟨S2x96x32x64x64, .f32⟩
  | 11 => ⟨S2x96x32x64x64, .f32⟩
  | 12 => ⟨S_, .f32⟩
  | 13 => ⟨S2x32x64x64, .f32⟩
  | 14 => ⟨S2x32x64x64, .f32⟩
  | 15 => ⟨S2x64x64x32, .f32⟩
  | 16 => ⟨S2x64x64x32, .f32⟩
  | 17 => ⟨S2x64x64x5, .f32⟩
  | 18 => ⟨S2x64x64x5, .i32⟩
  | 19 => ⟨S2x5x64x64, .i32⟩
  | 20 => ⟨S2, .i32⟩
  | 21 => ⟨S2x1x1x1, .i32⟩
  | 22 => ⟨S_, .i32⟩
  | 23 => ⟨S2x1x1x1, .i32⟩
  | 24 => ⟨S2x1x1x1, .i32⟩
  | 25 => ⟨S2x5x64x64, .i32⟩
  | 26 => ⟨S2x5x64x64, .i32⟩
  | 27 => ⟨S40960, .i32⟩
  | 28 => ⟨S2x32x96, .f32⟩
  | 29 => ⟨S64x96, .f32⟩
  | 30 => ⟨S_, .i32⟩
  | 31 => ⟨S40960, .i32⟩
  | 32 => ⟨S40960, .i1⟩
  | 33 => ⟨S_, .i32⟩
  | 34 => ⟨S40960, .i32⟩
  | 35 => ⟨S40960, .i32⟩
  | 36 => ⟨S40960, .i32⟩
  | 37 => ⟨S40960x1, .i32⟩
  | 38 => ⟨S40960x96, .f32⟩
  | 39 => ⟨S2x4096x5x96, .f32⟩
  | 40 => ⟨S2x4096x96, .f32⟩
  | 41 => ⟨S2x4096x1x96, .f32⟩
  | 42 => ⟨S2x4096x5x96, .f32⟩
  | 43 => ⟨S2x4096x5x96, .f32⟩
  | 44 => ⟨S2x4096x5x192, .f32⟩
  | 45 => ⟨S2x192x4096x5, .f32⟩
  | 46 => ⟨S2x4096x5x96, .f32⟩
  | 47 => ⟨S2x96x4096x5, .f32⟩
  | 48 => ⟨S_, .f32⟩
  | 49 => ⟨S96, .f32⟩
  | 50 => ⟨S1x96x1x1, .f32⟩
  | 51 => ⟨S_, .f32⟩
  | 52 => ⟨S1x96x1x1, .f32⟩
  | 53 => ⟨S1x96x1x1, .f32⟩
  | 54 => ⟨S2x96x4096x5, .f32⟩
  | 55 => ⟨S2x96x4096x5, .f32⟩
  | 56 => ⟨S2x96x4096x5, .f32⟩
  | 57 => ⟨S_, .f32⟩
  | 58 => ⟨S96, .f32⟩
  | 59 => ⟨S1x96x1x1, .f32⟩
  | 60 => ⟨S_, .f32⟩
  | 61 => ⟨S1x96x1x1, .f32⟩
  | 62 => ⟨S1x96x1x1, .f32⟩
  | 63 => ⟨S2x96x4096x5, .f32⟩
  | 64 => ⟨S2x96x4096x5, .f32⟩
  | 65 => ⟨S_, .f32⟩
  | 66 => ⟨S1x96x1x1, .f32⟩
  | 67 => ⟨S1x96x1x1, .f32⟩
  | 68 => ⟨S1x96x1x1, .f32⟩
  | 69 => ⟨S2x96x4096x5, .f32⟩
  | 70 => ⟨S2x96x4096x5, .f32⟩
  | 71 => ⟨S1x96x1x1, .f32⟩
  | 72 => ⟨S2x96x4096x5, .f32⟩
  | 73 => ⟨S2x96x4096x5, .f32⟩
  | 74 => ⟨S1x96x1x1, .f32⟩
  | 75 => ⟨S2x96x4096x5, .f32⟩
  | 76 => ⟨S2x96x4096x5, .f32⟩
  | 77 => ⟨S_, .f32⟩
  | 78 => ⟨S2x96x4096x5, .f32⟩
  | 79 => ⟨S2x96x4096x5, .f32⟩
  | 80 => ⟨S_, .f32⟩
  | 81 => ⟨S2x96x4096, .f32⟩
  | 82 => ⟨S2x96x4096, .f32⟩
  | _ => ⟨S2x96x64x64, .f32⟩

abbrev hbmTy (i : Nat) : BufTy := match i / 128 with
  | 0 => hbmTy0_0 i
  | 1 => hbmTy0_1 i
  | _ => ⟨S2x96x64x64, .f32⟩

abbrev bufTy : (tb : Table) → Fin (tcTables nBuf tb) → BufTy
  | .hbm, ⟨i, _⟩ => hbmTy i
  | _, _ => ⟨S2x96x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_cst : Ref sig .tc := ⟨.hbm, 51, rfl⟩
abbrev main_call0_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call1_v0 : Ref sig .tc := ⟨.hbm, 107, rfl⟩
abbrev main_call1_cst : Ref sig .tc := ⟨.hbm, 108, rfl⟩
abbrev main_call1_v1 : Ref sig .tc := ⟨.hbm, 109, rfl⟩
abbrev main_call1_v2 : Ref sig .tc := ⟨.hbm, 110, rfl⟩
abbrev main_v78 : Ref sig .tc := ⟨.hbm, 111, rfl⟩
abbrev main_cst_16 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call2_v0 : Ref sig .tc := ⟨.hbm, 118, rfl⟩
abbrev main_call2_cst : Ref sig .tc := ⟨.hbm, 119, rfl⟩
abbrev main_call2_v1 : Ref sig .tc := ⟨.hbm, 120, rfl⟩
abbrev main_call2_v2 : Ref sig .tc := ⟨.hbm, 121, rfl⟩
abbrev main_v84 : Ref sig .tc := ⟨.hbm, 122, rfl⟩
abbrev main_cst_17 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_18 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_values : Ref sig .tc := ⟨.hbm, 145, rfl⟩
abbrev main_indices : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_c : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_c_19 : Ref sig .tc := ⟨.hbm, 158, rfl⟩
abbrev main_v115 : Ref sig .tc := ⟨.hbm, 159, rfl⟩
abbrev main_v116 : Ref sig .tc := ⟨.hbm, 160, rfl⟩
abbrev main_c_20 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_21 : Ref sig .tc := ⟨.hbm, 176, rfl⟩
abbrev main_v131 : Ref sig .tc := ⟨.hbm, 177, rfl⟩
abbrev main_v132 : Ref sig .tc := ⟨.hbm, 178, rfl⟩
abbrev main_cst_22 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_23 : Ref sig .tc := ⟨.hbm, 185, rfl⟩
abbrev main_v138 : Ref sig .tc := ⟨.hbm, 186, rfl⟩
abbrev main_v139 : Ref sig .tc := ⟨.hbm, 187, rfl⟩
abbrev main_cst_24 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_25 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_call3_cst : Ref sig .tc := ⟨.hbm, 205, rfl⟩
abbrev main_call3_v0 : Ref sig .tc := ⟨.hbm, 206, rfl⟩
abbrev main_v155 : Ref sig .tc := ⟨.hbm, 207, rfl⟩
abbrev main_cst_26 : Ref sig .tc := ⟨.hbm, 208, rfl⟩
abbrev main_v156 : Ref sig .tc := ⟨.hbm, 209, rfl⟩
abbrev main_v157 : Ref sig .tc := ⟨.hbm, 210, rfl⟩

abbrev nD : Nat := 1
abbrev τ : Topo := Topo.v7x

variable {F : FTy → Type} [FloatOps F]
-- ==== Proof.KernelRun.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the idealised kernel: it ends with the result buffer `main_v10` at what the second region's write-back
    leaves (`W4`) and with every argument as launched. The launch is the frame's, with the result read as well. -/
theorem run : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

section Blocks
variable (V : (c : Dev nD) → (b : Ref sig .tc) → Buf (Elt F) ((c : Thread nD τ).loc b))

/-- Region 0's window 0 stages its whole array. -/
theorem iblk0_0_eq (c : Dev nD) (t : Fin cfg0.N) : iblk0 V c 0 t = V c main_v0 := by
  funext y
  have hi : ∀ t, win0_0.index t = ![0, 0, 0] := by decide +kernel
  blk_ext [iblk0, hi t]

/-- Region 0's window 1 stages its whole array. -/
theorem iblk0_1_eq (c : Dev nD) (t : Fin cfg0.N) : iblk0 V c 1 t = V c main_v1 := by
  funext y
  have hi : ∀ t, win0_1.index t = ![0, 0, 0] := by decide +kernel
  blk_ext [iblk0, hi t]

/-- Region 0's window 2 stages its whole array. -/
theorem iblk0_2_eq (c : Dev nD) (t : Fin cfg0.N) : iblk0 V c 2 t = V c main_arg2 := by
  funext y
  have hi : ∀ t, win0_2.index t = ![0, 0] := by decide +kernel
  blk_ext [iblk0, hi t]

/-- Region 0's window 3 stages its whole array. -/
theorem iblk0_3_eq (c : Dev nD) (t : Fin cfg0.N) : iblk0 V c 3 t = V c main_v2 := by
  funext y
  have hi : ∀ t, win0_3.index t = ![0, 0] := by decide +kernel
  blk_ext [iblk0, hi t]

/-- Region 0's window 4 stages its whole array. -/
theorem iblk0_4_eq (c : Dev nD) (t : Fin cfg0.N) : iblk0 V c 4 t = V c main_v3 := by
  funext y
  have hi : ∀ t, win0_4.index t = ![0, 0] := by decide +kernel
  blk_ext [iblk0, hi t]

/-- Region 0's window 5 stages its whole array. -/
theorem iblk0_5_eq (c : Dev nD) (t : Fin cfg0.N) : iblk0 V c 5 t = V c main_arg5 := by
  funext y
  have hi : ∀ t, win0_5.index t = ![0, 0] := by decide +kernel
  blk_ext [iblk0, hi t]

/-- Region 0's window 6 stages its whole array. -/
theorem iblk0_6_eq (c : Dev nD) (t : Fin cfg0.N) : iblk0 V c 6 t = V c main_arg6 := by
  funext y
  have hi : ∀ t, win0_6.index t = ![0, 0] := by decide +kernel
  blk_ext [iblk0, hi t]

/-- Region 0's output window 7 leaves its array at the body's result of the whole input arrays. -/
theorem arr0_7_eq (c : Dev nD) : (dat0 V c).arrAt 7 cfg0.N = out0_7 (V c main_v0) (V c main_v1) (V c main_arg2) (V c main_v2) (V c main_v3) (V c main_arg5) (V c main_arg6) := by
  refine (dat0 V c).arrAt_eq_of_after_last 7 t0_0 (by decide +kernel) _ fun j => ?_
  blk_simp
  rw [after0_7, iblk0_0_eq, iblk0_1_eq, iblk0_2_eq, iblk0_3_eq, iblk0_4_eq, iblk0_5_eq, iblk0_6_eq]

/-- Region 0's output window 8 leaves its array at the body's result of the whole input arrays. -/
theorem arr0_8_eq (c : Dev nD) : (dat0 V c).arrAt 8 cfg0.N = out0_8 (V c main_v0) (V c main_v1) (V c main_arg2) (V c main_v2) (V c main_v3) (V c main_arg5) (V c main_arg6) := by
  refine (dat0 V c).arrAt_eq_of_after_last 8 t0_0 (by decide +kernel) _ fun j => ?_
  blk_simp
  rw [after0_8, iblk0_0_eq, iblk0_1_eq, iblk0_2_eq, iblk0_3_eq, iblk0_4_eq, iblk0_5_eq, iblk0_6_eq]

/-- Region 0's output window 9 leaves its array at the body's result of the whole input arrays. -/
theorem arr0_9_eq (c : Dev nD) : (dat0 V c).arrAt 9 cfg0.N = out0_9 (V c main_v0) (V c main_v1) (V c main_arg2) (V c main_v2) (V c main_v3) (V c main_arg5) (V c main_arg6) := by
  refine (dat0 V c).arrAt_eq_of_after_last 9 t0_0 (by decide +kernel) _ fun j => ?_
  blk_simp
  rw [after0_9, iblk0_0_eq, iblk0_1_eq, iblk0_2_eq, iblk0_3_eq, iblk0_4_eq, iblk0_5_eq, iblk0_6_eq]

/-- Region 1's window 0 stages its whole array. -/
theorem iblk1_0_eq (c : Dev nD) (t : Fin cfg1.N) : iblk1 V c 0 t = V c main_v4_1 := by
  funext y
  have hi : ∀ t, win1_0.index t = ![0, 0] := by decide +kernel
  blk_ext [iblk1, hi t]

/-- Region 1's window 1 stages its whole array. -/
theorem iblk1_1_eq (c : Dev nD) (t : Fin cfg1.N) : iblk1 V c 1 t = V c main_v4_2 := by
  funext y
  have hi : ∀ t, win1_1.index t = ![0, 0] := by decide +kernel
  blk_ext [iblk1, hi t]

/-- Region 1's window 2 stages its whole array. -/
theorem iblk1_2_eq (c : Dev nD) (t : Fin cfg1.N) : iblk1 V c 2 t = V c main_arg7 := by
  funext y
  have hi : ∀ t, win1_2.index t = ![0, 0] := by decide +kernel
  blk_ext [iblk1, hi t]

/-- Region 1's window 3 stages its whole array. -/
theorem iblk1_3_eq (c : Dev nD) (t : Fin cfg1.N) : iblk1 V c 3 t = V c main_v7 := by
  funext y
  have hi : ∀ t, win1_3.index t = ![0, 0] := by decide +kernel
  blk_ext [iblk1, hi t]

/-- Region 1's window 4 stages its whole array. -/
theorem iblk1_4_eq (c : Dev nD) (t : Fin cfg1.N) : iblk1 V c 4 t = V c main_v8 := by
  funext y
  have hi : ∀ t, win1_4.index t = ![0, 0] := by decide +kernel
  blk_ext [iblk1, hi t]

/-- Region 1's window 5 stages its whole array. -/
theorem iblk1_5_eq (c : Dev nD) (t : Fin cfg1.N) : iblk1 V c 5 t = V c main_v9 := by
  funext y
  have hi : ∀ t, win1_5.index t = ![0, 0] := by decide +kernel
  blk_ext [iblk1, hi t]

/-- Region 1's output window 6 leaves its array at the body's result of the whole input arrays. -/
theorem arr1_6_eq (c : Dev nD) : (dat1 V c).arrAt 6 cfg1.N = out1_6 (V c main_v4_1) (V c main_v4_2) (V c main_arg7) (V c main_v7) (V c main_v8) (V c main_v9) := by
  refine (dat1 V c).arrAt_eq_of_after_last 6 t1_0 (by decide +kernel) _ fun j => ?_
  blk_simp
  rw [after1_6, iblk1_0_eq, iblk1_1_eq, iblk1_2_eq, iblk1_3_eq, iblk1_4_eq, iblk1_5_eq]

end Blocks

end Cert.KernelIdeal.Gen

end
-- ==== Proof.KernelResult.lean ====
module

public import proofs.«01_k».proof.Proof.KernelRun
public import Idealize.ShloMosaic.Lib.Claim

@[expose] public section

set_option maxRecDepth 16384

noncomputable section

namespace Cert.KernelIdeal.Gen

open Idealize.ShloMosaic Idealize.ShloMosaic.TcCoe Idealize.ShloMosaic.Tactic

variable {F : FTy → Type} [FloatOps F]

variable (m : (ℓ : Loc nD τ sig) → Buf (Elt F) ℓ) (ρ : Dev nD → PrngReg)

/-- The image argument with its two spatial axes merged. -/
theorem V1_v0 (c : Dev nD) : V1 m ρ c main_v0 = shapeCast S2x96x4096 (m ((c : Thread nD τ).loc main_arg0)) shapeCasts_S2x96x64x64_S2x96x4096 := by
  unfold_abbrev_sides
  after_results
  try rfl

theorem V1_v1 (c : Dev nD) : V1 m ρ c main_v1 = shapeCast S2x1x4096 (m ((c : Thread nD τ).loc main_arg1)) shapeCasts_S2x1x64x64_S2x1x4096 := by
  unfold_abbrev_sides
  after_results
  try rfl

theorem V1_v2 (c : Dev nD) : V1 m ρ c main_v2 = broadcastInDim S1x96 ![1] bcast_S96_S1x96_1 (m ((c : Thread nD τ).loc main_arg3)) := by
  unfold_abbrev_sides
  after_results
  try rfl

theorem V1_v3 (c : Dev nD) : V1 m ρ c main_v3 = broadcastInDim S1x96 ![1] bcast_S96_S1x96_1 (m ((c : Thread nD τ).loc main_arg4)) := by
  unfold_abbrev_sides
  after_results
  try rfl

theorem V3_v7 (c : Dev nD) : V3 m ρ c main_v7 = shapeCast S8192x5 (shapeCast S2x4096x5 (shapeCast S2x20480 (V2 m ρ c main_v4_0) shapeCasts_S2x5x4096x1_S2x20480) shapeCasts_S2x20480_S2x4096x5) shapeCasts_S2x4096x5_S8192x5 := by
  unfold_abbrev_sides
  after_results
  try rfl

theorem V3_v8 (c : Dev nD) : V3 m ρ c main_v8 = broadcastInDim S1x96 ![1] bcast_S96_S1x96_1 (V2 m ρ c main_arg8) := by
  unfold_abbrev_sides
  after_results
  try rfl

theorem V3_v9 (c : Dev nD) : V3 m ρ c main_v9 = broadcastInDim S1x96 ![1] bcast_S96_S1x96_1 (V2 m ρ c main_arg9) := by
  unfold_abbrev_sides
  after_results
  try rfl

/-- The first launch's three results, as functions of the program's arguments. -/
def words (c : Dev nD) :=
  out0_7 (shapeCast S2x96x4096 (m ((c : Thread nD τ).loc main_arg0)) shapeCasts_S2x96x64x64_S2x96x4096)
    (shapeCast S2x1x4096 (m ((c : Thread nD τ).loc main_arg1)) shapeCasts_S2x1x64x64_S2x1x4096)
    (m ((c : Thread nD τ).loc main_arg2))
    (broadcastInDim S1x96 ![1] bcast_S96_S1x96_1 (m ((c : Thread nD τ).loc main_arg3)))
    (broadcastInDim S1x96 ![1] bcast_S96_S1x96_1 (m ((c : Thread nD τ).loc main_arg4)))
    (m ((c : Thread nD τ).loc main_arg5)) (m ((c : Thread nD τ).loc main_arg6))

@[inherit_doc words] def pixels (c : Dev nD) :=
  out0_8 (shapeCast S2x96x4096 (m ((c : Thread nD τ).loc main_arg0)) shapeCasts_S2x96x64x64_S2x96x4096)
    (shapeCast S2x1x4096 (m ((c : Thread nD τ).loc main_arg1)) shapeCasts_S2x1x64x64_S2x1x4096)
    (m ((c : Thread nD τ).loc main_arg2))
    (broadcastInDim S1x96 ![1] bcast_S96_S1x96_1 (m ((c : Thread nD τ).loc main_arg3)))
    (broadcastInDim S1x96 ![1] bcast_S96_S1x96_1 (m ((c : Thread nD τ).loc main_arg4)))
    (m ((c : Thread nD τ).loc main_arg5)) (m ((c : Thread nD τ).loc main_arg6))

@[inherit_doc words] def nodes (c : Dev nD) :=
  out0_9 (shapeCast S2x96x4096 (m ((c : Thread nD τ).loc main_arg0)) shapeCasts_S2x96x64x64_S2x96x4096)
    (shapeCast S2x1x4096 (m ((c : Thread nD τ).loc main_arg1)) shapeCasts_S2x1x64x64_S2x1x4096)
    (m ((c : Thread nD τ).loc main_arg2))
    (broadcastInDim S1x96 ![1] bcast_S96_S1x96_1 (m ((c : Thread nD τ).loc main_arg3)))
    (broadcastInDim S1x96 ![1] bcast_S96_S1x96_1 (m ((c : Thread nD τ).loc main_arg4)))
    (m ((c : Thread nD τ).loc main_arg5)) (m ((c : Thread nD τ).loc main_arg6))

theorem V2_words (c : Dev nD) : V2 m ρ c main_v4_0 = words m c := by
  refine (W2_arr m ρ c 7).trans ?_
  rw [arr0_7_eq (V1 m ρ) c, V1_v0, V1_v1, V1_v2, V1_v3]
  have h2 : V1 m ρ c main_arg2 = m ((c : Thread nD τ).loc main_arg2) := W1_args m ρ c main_arg2 (by decide)
  have h5 : V1 m ρ c main_arg5 = m ((c : Thread nD τ).loc main_arg5) := W1_args m ρ c main_arg5 (by decide)
  have h6 : V1 m ρ c main_arg6 = m ((c : Thread nD τ).loc main_arg6) := W1_args m ρ c main_arg6 (by decide)
  rw [h2, h5, h6]
  rfl

theorem V2_pixels (c : Dev nD) : V2 m ρ c main_v4_1 = pixels m c := by
  refine (W2_arr m ρ c 8).trans ?_
  rw [arr0_8_eq (V1 m ρ) c, V1_v0, V1_v1, V1_v2, V1_v3]
  have h2 : V1 m ρ c main_arg2 = m ((c : Thread nD τ).loc main_arg2) := W1_args m ρ c main_arg2 (by decide)
  have h5 : V1 m ρ c main_arg5 = m ((c : Thread nD τ).loc main_arg5) := W1_args m ρ c main_arg5 (by decide)
  have h6 : V1 m ρ c main_arg6 = m ((c : Thread nD τ).loc main_arg6) := W1_args m ρ c main_arg6 (by decide)
  rw [h2, h5, h6]
  rfl

theorem V2_nodes (c : Dev nD) : V2 m ρ c main_v4_2 = nodes m c := by
  refine (W2_arr m ρ c 9).trans ?_
  rw [arr0_9_eq (V1 m ρ) c, V1_v0, V1_v1, V1_v2, V1_v3]
  have h2 : V1 m ρ c main_arg2 = m ((c : Thread nD τ).loc main_arg2) := W1_args m ρ c main_arg2 (by decide)
  have h5 : V1 m ρ c main_arg5 = m ((c : Thread nD τ).loc main_arg5) := W1_args m ρ c main_arg5 (by decide)
  have h6 : V1 m ρ c main_arg6 = m ((c : Thread nD τ).loc main_arg6) := W1_args m ρ c main_arg6 (by decide)
  rw [h2, h5, h6]
  rfl

/-- The program's result: the second launch's body on the first launch's three results and the last three
    arguments. -/
def kernelResult (c : Dev nD) :=
  out1_6 (pixels m c) (nodes m c) (m ((c : Thread nD τ).loc main_arg7))
    (shapeCast S8192x5 (shapeCast S2x4096x5 (shapeCast S2x20480 (words m c) shapeCasts_S2x5x4096x1_S2x20480)
      shapeCasts_S2x20480_S2x4096x5) shapeCasts_S2x4096x5_S8192x5)
    (broadcastInDim S1x96 ![1] bcast_S96_S1x96_1 (m ((c : Thread nD τ).loc main_arg8)))
    (broadcastInDim S1x96 ![1] bcast_S96_S1x96_1 (m ((c : Thread nD τ).loc main_arg9)))

/-- The result buffer holds `kernelResult` when the program ends. -/
theorem W4_result (c : Dev nD) : W4 m ρ c (Proc.devRef .tc main_v10) = kernelResult m c := by
  refine (W4_arr m ρ c 6).trans ?_
  rw [arr1_6_eq (V3 m ρ) c, V3_v7, V3_v8, V3_v9, V2_words]
  have h1 : V3 m ρ c main_v4_1 = pixels m c := (W3_of m ρ c main_v4_1 (by decide)).trans (V2_pixels m ρ c)
  have h2 : V3 m ρ c main_v4_2 = nodes m c := (W3_of m ρ c main_v4_2 (by decide)).trans (V2_nodes m ρ c)
  have h7 : V3 m ρ c main_arg7 = m ((c : Thread nD τ).loc main_arg7) := W3_args m ρ c main_arg7 (by decide)
  have h8 : V2 m ρ c main_arg8 = m ((c : Thread nD τ).loc main_arg8) := W2_args m ρ c main_arg8 (by decide)
  have h9 : V2 m ρ c main_arg9 = m ((c : Thread nD τ).loc main_arg9) := W2_args m ρ c main_arg9 (by decide)
  rw [h1, h2, h7, h8, h9]
  rfl

end Cert.KernelIdeal.Gen

end
-- ==== Proof.Model.lean ====
/- The real numbers the kernel and the reference both compute, written plainly. -/
module

public import Idealize.ShloMosaic.Lib.IdealHost

@[expose] public section

noncomputable section

namespace GraphBlock

open Idealize.ShloMosaic

/-- The batch a row of the flattened image belongs to. -/
def bOf (r : Fin 8192) : Fin 2 := ⟨r.val / 4096, by omega⟩

/-- The pixel a row of the flattened image stands for. -/
def nOf (r : Fin 8192) : Fin 4096 := ⟨r.val % 4096, by omega⟩

/-- The row of the flattened image of pixel `n` of batch `b`. -/
def row (b : Fin 2) (n : Fin 4096) : Fin 8192 := ⟨b.val * 4096 + n.val, by omega⟩

/-- The row of the table of all nodes of node `k` of batch `b`. -/
def node (b : Fin 2) (k : Fin 32) : Fin 64 := ⟨b.val * 32 + k.val, by omega⟩

/-- The batch a row of the table of all nodes belongs to. -/
def bNode (j : Fin 64) : Fin 2 := ⟨j.val / 32, by omega⟩

/-- The node a row of the table of all nodes stands for. -/
def kNode (j : Fin 64) : Fin 32 := ⟨j.val % 32, by omega⟩

/-- The constant added to the two variances. -/
def e5 : ℝ := 10995116 / 2 ^ 40

/-- The constant added to the sum of the soft assignments. -/
def e9 : ℝ := 9007199 / 2 ^ 53

/-- The least norm the nodes are divided by. -/
def e12 : ℝ := 9223372 / 2 ^ 63

theorem e5_pos : 0 < e5 := by norm_num [e5]
theorem e9_pos : 0 < e9 := by norm_num [e9]
theorem e12_pos : 0 < e12 := by norm_num [e12]

/-- The inputs: the image by batch, pixel and channel, the gate of each pixel, the weights and the widths, as real numbers;
the first offset and the anchors, which may be infinite. -/
structure In where
  x : Fin 2 → Fin 4096 → Fin 96 → ℝ
  s : Fin 2 → Fin 4096 → ℝ
  W0 : Fin 96 → Fin 96 → ℝ
  g0 : Fin 96 → ℝ
  bo : Fin 96 → EReal
  an : Fin 32 → Fin 96 → EReal
  sg : Fin 32 → Fin 96 → ℝ
  sg_pos : ∀ k c, 0 < sg k c
  W1 : Fin 96 → Fin 192 → ℝ
  g1 : Fin 96 → ℝ

namespace In
variable (P : In)

/-- The first product: the gated image times the first weights. -/
def h (b : Fin 2) (n : Fin 4096) (o : Fin 96) : ℝ := ∑ i, P.s b n * P.x b n i * P.W0 o i

/-- The mean of `h` of each channel. -/
def mu0 (o : Fin 96) : ℝ := (∑ b, ∑ n, P.h b n o) / 8192

/-- The variance of `h` of each channel. -/
def va0 (o : Fin 96) : ℝ := (∑ b, ∑ n, (P.h b n o - P.mu0 o) * (P.h b n o - P.mu0 o)) / 8192

/-- The normalised first product, cut off below zero; infinite where the offset is. -/
def zE (b : Fin 2) (n : Fin 4096) (o : Fin 96) : EReal :=
  max ((((P.h b n o - P.mu0 o) / √(P.va0 o + e5) * P.g0 o : ℝ) : EReal) + P.bo o) 0

/-- The same as a real number, used where the offset is not plus infinity. -/
def z (b : Fin 2) (n : Fin 4096) (o : Fin 96) : ℝ := (P.zE b n o).toReal

/-- The anchors as real numbers, used where they are finite. -/
def anc (k : Fin 32) (c : Fin 96) : ℝ := (P.an k c).toReal

/-- A node at a finite distance from the pixels: no offset is plus infinity and its anchor is finite. -/
def Ok (k : Fin 32) : Prop := (∀ c, P.bo c ≠ ⊤) ∧ ∀ c, P.an k c ≠ ⊤ ∧ P.an k c ≠ ⊥

/-- The scaled distance of a pixel from an anchor, by channel. -/
def rs (b : Fin 2) (n : Fin 4096) (k : Fin 32) (c : Fin 96) : ℝ := (P.z b n c - P.anc k c) / P.sg k c

/-- The exponent of the soft assignment, of a node at a finite distance. -/
def L (b : Fin 2) (n : Fin 4096) (k : Fin 32) : ℝ := -(1 / 2) * ∑ c, P.rs b n k c * P.rs b n k c

open Classical in
/-- The exponent of the soft assignment: minus infinity for a node at no finite distance. -/
def LE (b : Fin 2) (n : Fin 4096) (k : Fin 32) : EReal := if P.Ok k then ((P.L b n k : ℝ) : EReal) else ⊥

/-- The largest exponent of a pixel. -/
def top (b : Fin 2) (n : Fin 4096) : ℝ := (Finset.univ.sup (P.LE b n)).toReal

open Classical in
/-- The exponential of an exponent less the largest one; zero for a node at no finite distance. -/
def ex (b : Fin 2) (n : Fin 4096) (k : Fin 32) : ℝ := if P.Ok k then Real.exp (P.L b n k - P.top b n) else 0

/-- The soft assignment of a pixel to a node. -/
def sm (b : Fin 2) (n : Fin 4096) (k : Fin 32) : ℝ := P.ex b n k / ∑ k', P.ex b n k'

/-- The sum of the assignments to a node. -/
def dn (b : Fin 2) (k : Fin 32) : ℝ := ∑ n, P.sm b n k

/-- The weighted mean of the scaled distances. -/
def nd0 (b : Fin 2) (k : Fin 32) (c : Fin 96) : ℝ := (∑ n, P.rs b n k c * P.sm b n k) / (P.dn b k + e9)

/-- The norm of a node. -/
def nr0 (b : Fin 2) (k : Fin 32) : ℝ := √(∑ c, P.nd0 b k c * P.nd0 b k c)

/-- The nodes, each divided by its norm. -/
def nd1 (b : Fin 2) (k : Fin 32) (c : Fin 96) : ℝ := P.nd0 b k c / max (P.nr0 b k) e12

/-- The norm of all nodes of a batch. -/
def nr1 (b : Fin 2) : ℝ := √(∑ k, ∑ c, P.nd1 b k c * P.nd1 b k c)

/-- The nodes, divided by the norm of their batch. -/
def nd2 (b : Fin 2) (k : Fin 32) (c : Fin 96) : ℝ := P.nd1 b k c / max (P.nr1 b) e12

/-- The nodes read again as one list of 96 times 32 numbers. -/
def feat (b : Fin 2) (k : Fin 32) (c : Fin 96) : ℝ :=
  P.nd2 b ⟨(c.val * 32 + k.val) / 96, by omega⟩ ⟨(c.val * 32 + k.val) % 96, by omega⟩

/-- The squared distance of a pixel from a node. -/
def d2 (b : Fin 2) (n : Fin 4096) (k : Fin 32) : ℝ :=
  ∑ c, (P.x b n c - P.feat b k c) * (P.x b n c - P.feat b k c)

end In

/-- Nearer, and among equally near ones the lower number. -/
def nearer {m : Nat} (d : Fin m → ℝ) (k k' : Fin m) : Bool :=
  decide (d k < d k') || (decide (d k = d k') && decide (k < k'))

/-- The `t`-th nearest of 32. -/
def pick (d : Fin 32 → ℝ) (t : Fin 5) : Fin 32 := sortedFrom (nearer d) (t.castLE (by decide))

namespace In
variable (P : In)

/-- The five nearest nodes of a pixel. -/
def sel (b : Fin 2) (n : Fin 4096) (t : Fin 5) : Fin 32 := pick (P.d2 b n) t

/-- The neighbour `j` of pixel `n`: the list of the picks by rank and pixel, read again by pixel and neighbour. -/
def nb (b : Fin 2) (n : Fin 4096) (j : Fin 5) : Fin 32 :=
  P.sel b ⟨(n.val * 5 + j.val) % 4096, by omega⟩ ⟨(n.val * 5 + j.val) / 4096, by omega⟩

/-- The second product, at a pixel and one neighbour. -/
def y (b : Fin 2) (n : Fin 4096) (j : Fin 5) (o : Fin 96) : ℝ :=
  ∑ i : Fin 96, (P.feat b (P.nb b n j) i - P.x b n i) * P.W1 o ⟨i.val, by omega⟩
    + ∑ i : Fin 96, P.x b n i * P.W1 o ⟨96 + i.val, by omega⟩

/-- The mean of `y` of each channel. -/
def mu1 (o : Fin 96) : ℝ := (∑ b, ∑ n, ∑ j, P.y b n j o) / 40960

/-- The variance of `y` of each channel. -/
def va1 (o : Fin 96) : ℝ := (∑ b, ∑ n, ∑ j, (P.y b n j o - P.mu1 o) * (P.y b n j o - P.mu1 o)) / 40960

/-- The normalised second product of one neighbour, before the offset. -/
def yn (b : Fin 2) (n : Fin 4096) (j : Fin 5) (o : Fin 96) : ℝ :=
  (P.y b n j o - P.mu1 o) / √(P.va1 o + e5) * P.g1 o

/-- The result: the image plus the largest of the cut-off neighbour values. The last offset may be any extended real. -/
def res (be : Fin 96 → EReal) (b : Fin 2) (n : Fin 4096) (o : Fin 96) : EReal :=
  (P.x b n o : EReal) + Finset.univ.sup fun j => max ((P.yn b n j o : EReal) + be o) 0

end In
end GraphBlock
-- ==== Proof.Consts.lean ====
/- The literals of the two programs as extended reals, and how division and the rest act on real numbers. -/
module

public import proofs.«01_k».proof.Proof.Model
public import Idealize.ShloMosaic.Lib.IdealHost

@[expose] public section

noncomputable section

namespace GraphBlock

open Idealize.ShloMosaic

theorem lit_e5 : Ideal.ofBits .f32 0x3727C5AC#32 = ((e5 : ℝ) : EReal) := by
  simp [Ideal.ofBits, Ideal.ieee, -EReal.coe_mul, e5]; norm_num

theorem lit_e9 : Ideal.ofBits .f32 0x3089705F#32 = ((e9 : ℝ) : EReal) := by
  simp [Ideal.ofBits, Ideal.ieee, -EReal.coe_mul, e9]; norm_num

theorem lit_e12 : Ideal.ofBits .f32 0x2B8CBCCC#32 = ((e12 : ℝ) : EReal) := by
  simp [Ideal.ofBits, Ideal.ieee, -EReal.coe_mul, e12]; norm_num

theorem lit_8192 : Ideal.ofBits .f32 0x46000000#32 = ((8192 : ℝ) : EReal) := by
  simp [Ideal.ofBits, Ideal.ieee, -EReal.coe_mul]; norm_num

theorem lit_40960 : Ideal.ofBits .f32 0x47200000#32 = ((40960 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_neg_two : Ideal.ofBits .f32 0xC0000000#32 = ((-2 : ℝ) : EReal) := by
  simp [Ideal.ofBits, Ideal.ieee, -EReal.coe_mul]; norm_num

theorem lit_five : Ideal.ofBits .f32 0x40A00000#32 = ((5 : ℝ) : EReal) := by
  simp [Ideal.ofBits, Ideal.ieee, -EReal.coe_mul]; norm_num

theorem lit_zero : Ideal.ofBits .f32 0x00000000#32 = ((0 : ℝ) : EReal) := by
  simp

theorem lit_one : Ideal.ofBits .f32 0x3F800000#32 = ((1 : ℝ) : EReal) := by
  simp

theorem lit_top : Ideal.ofBits .f32 0x7F800000#32 = (⊤ : EReal) := by
  simp [Ideal.ofBits, Ideal.ieee]

theorem lit_bot : Ideal.ofBits .f32 0xFF800000#32 = (⊥ : EReal) := by
  simp [Ideal.ofBits, Ideal.ieee]

/-- The quotient of two real numbers, the divisor not zero. -/
theorem div_real {y : ℝ} (hy : y ≠ 0) (x : ℝ) : Ideal.div (x : EReal) (y : EReal) = ((x / y : ℝ) : EReal) := by
  rw [Ideal.div_coe hy, ← EReal.coe_mul, mul_one_div]

/-- The root of a real number that is not negative. -/
theorem sqrt_real {x : ℝ} (hx : 0 ≤ x) : Ideal.sqrt (x : EReal) = ((√x : ℝ) : EReal) := by
  rw [Ideal.sqrt_coe, if_neg (not_lt.mpr hx)]

/-- The inverse root of a positive real number. -/
theorem rsqrt_real {x : ℝ} (hx : 0 < x) : Ideal.rsqrt (x : EReal) = (((√x)⁻¹ : ℝ) : EReal) := by
  rw [Ideal.rsqrt_coe, if_neg (not_lt.mpr hx.le), if_neg hx.ne']

/-- A sum of real numbers is a real number. -/
theorem sum_real {ι : Type*} [Fintype ι] (f : ι → ℝ) : ∑ i, (f i : EReal) = ((∑ i, f i : ℝ) : EReal) := by
  classical
  have h : ∀ s : Finset ι, ∑ i ∈ s, (f i : EReal) = ((∑ i ∈ s, f i : ℝ) : EReal) := by
    intro s
    induction s using Finset.induction_on with
    | empty => simp
    | insert a s ha ih => rw [Finset.sum_insert ha, Finset.sum_insert ha, ih, EReal.coe_add]
  exact h _

/-- The larger of two real numbers is a real number. -/
theorem max_real (x y : ℝ) : max (x : EReal) (y : EReal) = ((max x y : ℝ) : EReal) := by
  exact (EReal.coe_strictMono.monotone.map_max).symm

/-- Folding the larger one from below everything is the least upper bound. -/
theorem fold_max_eq_sup {ι : Type*} [Fintype ι] (f : ι → EReal) :
    (Finset.univ : Finset ι).fold max ⊥ f = Finset.univ.sup f := rfl

/-- Folding the smaller one from above everything is the greatest lower bound. -/
theorem fold_min_eq_inf {ι : Type*} [Fintype ι] (f : ι → EReal) :
    (Finset.univ : Finset ι).fold min ⊤ f = Finset.univ.inf f := rfl

/-- The largest of real numbers is a real number. -/
theorem sup_real {ι : Type*} [Fintype ι] [Nonempty ι] (f : ι → ℝ) (h : (Finset.univ : Finset ι).Nonempty) :
    Finset.univ.sup (fun i => (f i : EReal)) = ((Finset.univ.sup' h f : ℝ) : EReal) := by
  rw [← Finset.sup'_eq_sup h]
  exact (Finset.comp_sup'_eq_sup'_comp h (fun a : ℝ => (a : EReal)) (fun a b => (max_real a b).symm)).symm

end GraphBlock
-- ==== Proof.Finite.lean ====
/-
  What the precondition says: the arguments it names hold real numbers, no width is minus infinity, and the second scale is not
  negative.
-/
module

public import proofs.«01_k».proof.Pre_finite_inputs
public import proofs.«01_k».proof.Proof.Consts
public import Idealize.ShloMosaic.Lib.ReduceAll
public import Idealize.ShloMosaic.Lib.IdealHost

@[expose] public section

set_option maxRecDepth 16384

noncomputable section

namespace Cert.Pre_finite_inputs

open Idealize.ShloMosaic

/-- The shape relations the precondition states. -/
instance facts : Facts where
  bcast_S_S2x96x64x64 := by decide
  reducesTo_S2x96x64x64_S_d0_1_2_3 := by decide
  h_S_ := by decide
  bcast_S_S96x96 := by decide
  reducesTo_S96x96_S_d0_1 := by decide
  bcast_S_S96 := by decide
  reducesTo_S96_S_d0 := by decide
  bcast_S_S32x96 := by decide
  reducesTo_S32x96_S_d0_1 := by decide
  bcast_S_S96x192 := by decide
  reducesTo_S96x192_S_d0_1 := by decide

end Cert.Pre_finite_inputs

namespace GraphBlock

open Idealize.ShloMosaic Cert.Pre_finite_inputs

instance : Subsingleton S_.Idx := ⟨fun a b => by funext d; exact d.elim0⟩

/-- A number whose magnitude is below plus infinity is real. -/
theorem real_of_abs_lt {x : EReal} (h : Ideal.cmp .olt (max x (-x)) ⊤ = 1#1) : ((x.toReal : ℝ) : EReal) = x := by
  induction x using EReal.rec with
  | bot => simp [Ideal.cmp] at h
  | top => simp [Ideal.cmp] at h
  | coe r => rfl

/-- An array whose magnitudes are all below plus infinity holds real numbers. -/
theorem all_real {s : Shape} (x : FVec Ideal s .f32) {axes : List (Fin s.rank)}
    (hb : S_.BroadcastsInDim s (![] : Fin 0 → Fin s.rank)) (h : s.ReducesTo axes S_) (hu : 0 < S_.numel) (j : S_.Idx)
    (e : Host.reduce IntOp.andi (cmpf .olt (Host.absf x) (broadcastInDim s ![] hb (constant S_ .f32 0x7F800000#32)))
      (constantI S_ 1 1#1) h hu j = 1#1) (i : s.Idx) : (((x i : EReal).toReal : ℝ) : EReal) = x i := by
  have k := Host.reduce_andi_all _ _ h hu j e i
  refine real_of_abs_lt ?_
  rw [← lit_top]
  exact k

/-- An array whose elements all compare at least zero holds no negative number. -/
theorem all_nonneg {s : Shape} (x : FVec Ideal s .f32) {axes : List (Fin s.rank)}
    (hb : S_.BroadcastsInDim s (![] : Fin 0 → Fin s.rank)) (h : s.ReducesTo axes S_) (hu : 0 < S_.numel) (j : S_.Idx)
    (e : Host.reduce IntOp.andi (cmpf .oge x (broadcastInDim s ![] hb (constant S_ .f32 0x00000000#32)))
      (constantI S_ 1 1#1) h hu j = 1#1) (i : s.Idx) : (0 : EReal) ≤ x i := by
  have k : Ideal.cmp .oge (x i) (Ideal.ofBits .f32 0x00000000#32) = 1#1 := Host.reduce_andi_all _ _ h hu j e i
  rw [lit_zero] at k
  by_contra hn
  simp [Ideal.cmp, hn] at k

/-- An array whose elements all compare below plus infinity does not hold plus infinity. -/
theorem all_lt_top {s : Shape} (x : FVec Ideal s .f32) {axes : List (Fin s.rank)}
    (hb : S_.BroadcastsInDim s (![] : Fin 0 → Fin s.rank)) (h : s.ReducesTo axes S_) (hu : 0 < S_.numel) (j : S_.Idx)
    (e : Host.reduce IntOp.andi (cmpf .olt x (broadcastInDim s ![] hb (constant S_ .f32 0x7F800000#32)))
      (constantI S_ 1 1#1) h hu j = 1#1) (i : s.Idx) : x i ≠ (⊤ : EReal) := by
  have k : Ideal.cmp .olt (x i) (Ideal.ofBits .f32 0x7F800000#32) = 1#1 := Host.reduce_andi_all _ _ h hu j e i
  rw [lit_top] at k
  intro hn
  simp [Ideal.cmp, hn] at k

/-- An array whose elements all compare above minus infinity does not hold minus infinity. -/
theorem all_gt_bot {s : Shape} (x : FVec Ideal s .f32) {axes : List (Fin s.rank)}
    (hb : S_.BroadcastsInDim s (![] : Fin 0 → Fin s.rank)) (h : s.ReducesTo axes S_) (hu : 0 < S_.numel) (j : S_.Idx)
    (e : Host.reduce IntOp.andi (cmpf .ogt x (broadcastInDim s ![] hb (constant S_ .f32 0xFF800000#32)))
      (constantI S_ 1 1#1) h hu j = 1#1) (i : s.Idx) : x i ≠ (⊥ : EReal) := by
  have k : Ideal.cmp .ogt (x i) (Ideal.ofBits .f32 0xFF800000#32) = 1#1 := Host.reduce_andi_all _ _ h hu j e i
  rw [lit_bot] at k
  intro hn
  simp [Ideal.cmp, hn] at k

/-- What the precondition says of the arguments. -/
structure FiniteArgs (a0 : FVec Ideal S2x96x64x64 .f32) (a2 : FVec Ideal S96x96 .f32) (a3 : FVec Ideal S96 .f32)
    (a6 : FVec Ideal S32x96 .f32) (a7 : FVec Ideal S96x192 .f32) (a8 : FVec Ideal S96 .f32) : Prop where
  h0 : ∀ i, (((a0 i : EReal).toReal : ℝ) : EReal) = a0 i
  h2 : ∀ i, (((a2 i : EReal).toReal : ℝ) : EReal) = a2 i
  h3 : ∀ i, (((a3 i : EReal).toReal : ℝ) : EReal) = a3 i
  h6 : ∀ i, a6 i ≠ (⊥ : EReal)
  h7 : ∀ i, (((a7 i : EReal).toReal : ℝ) : EReal) = a7 i
  lt_top : ∀ i, a8 i ≠ (⊤ : EReal)
  nonneg : ∀ i, (0 : EReal) ≤ a8 i

/-- The precondition, read back. -/
theorem finiteArgs (a0 : FVec Ideal S2x96x64x64 .f32) (a1 : FVec Ideal S2x1x64x64 .f32) (a2 : FVec Ideal S96x96 .f32)
    (a3 a4 : FVec Ideal S96 .f32) (a5 a6 : FVec Ideal S32x96 .f32) (a7 : FVec Ideal S96x192 .f32) (a8 a9 : FVec Ideal S96 .f32)
    (h : fn (F := Ideal) a0 a1 a2 a3 a4 a5 a6 a7 a8 a9 = fun _ => 1#1) : FiniteArgs a0 a2 a3 a6 a7 a8 := by
  have j : S_.Idx := fun d => d.elim0
  replace h := congrFun h j
  unfold fn fn_part1 at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h3⟩ := IntOp.andi_eq_one.1 h
  obtain ⟨h0, h2⟩ := IntOp.andi_eq_one.1 h
  exact ⟨all_real _ _ _ _ j h0, all_real _ _ _ _ j h2, all_real _ _ _ _ j h3, all_gt_bot _ _ _ _ j h6, all_real _ _ _ _ j h7,
    all_lt_top _ _ _ _ j h8, all_nonneg _ _ _ _ j h9⟩

/-- A number that is not negative and not plus infinity is real. -/
theorem FiniteArgs.h8 {a0 : FVec Ideal S2x96x64x64 .f32} {a2 : FVec Ideal S96x96 .f32} {a3 : FVec Ideal S96 .f32}
    {a6 : FVec Ideal S32x96 .f32} {a7 : FVec Ideal S96x192 .f32} {a8 : FVec Ideal S96 .f32} (H : FiniteArgs a0 a2 a3 a6 a7 a8)
    (i : S96.Idx) : (((a8 i : EReal).toReal : ℝ) : EReal) = a8 i := by
  refine EReal.coe_toReal (H.lt_top i) fun hb => ?_
  have h := H.nonneg i
  rw [hb] at h
  simp at h

/-- The sigmoid of any number, infinite ones too, is real. -/
theorem logistic_is_real (x : EReal) : (((Ideal.logistic x).toReal : ℝ) : EReal) = Ideal.logistic x := by
  induction x using EReal.rec with
  | bot => rw [Ideal.logistic_bot]; rfl
  | top => rw [Ideal.logistic_top]; rfl
  | coe r => rw [Ideal.logistic_coe]; rfl

open Classical in
/-- The sigmoid as a real number; 1, to have a positive number, where it is zero. -/
def sigm (x : EReal) : ℝ := if x = ⊥ then 1 else (Ideal.logistic x).toReal

theorem sigm_pos (x : EReal) : 0 < sigm x := by
  induction x using EReal.rec with
  | bot => simp [sigm]
  | top => simp [sigm, Ideal.logistic_top]
  | coe r =>
    rw [sigm, if_neg (EReal.coe_ne_bot r), Ideal.logistic_coe]
    exact inv_pos.mpr (by positivity)

theorem sigm_real {x : EReal} (h : x ≠ ⊥) : Ideal.logistic x = ((sigm x : ℝ) : EReal) := by
  rw [sigm, if_neg h, logistic_is_real]

end GraphBlock

end
-- ==== Proof.Rows.lean ====
/- Sums over the rows of the flattened image, and the algebra of means, variances and exponents over real numbers. -/
module

public import proofs.«01_k».proof.Proof.Consts

@[expose] public section

noncomputable section

namespace GraphBlock

open Idealize.ShloMosaic

theorem row_bOf_nOf (r : Fin 8192) : row (bOf r) (nOf r) = r := by
  apply Fin.ext; simp only [row, bOf, nOf]; omega

theorem bOf_row (b : Fin 2) (n : Fin 4096) : bOf (row b n) = b := by
  apply Fin.ext; simp only [row, bOf]; omega

theorem nOf_row (b : Fin 2) (n : Fin 4096) : nOf (row b n) = n := by
  apply Fin.ext; simp only [row, nOf]; omega

theorem node_b_k (j : Fin 64) : node (bNode j) (kNode j) = j := by
  apply Fin.ext; simp only [node, bNode, kNode]; omega

theorem bNode_node (b : Fin 2) (k : Fin 32) : bNode (node b k) = b := by
  apply Fin.ext; simp only [node, bNode]; omega

theorem kNode_node (b : Fin 2) (k : Fin 32) : kNode (node b k) = k := by
  apply Fin.ext; simp only [node, kNode]; omega

/-- Rows are pairs of a batch and a pixel. -/
def rowEquiv : Fin 2 × Fin 4096 ≃ Fin 8192 where
  toFun p := row p.1 p.2
  invFun r := (bOf r, nOf r)
  left_inv p := by simp only [bOf_row, nOf_row]
  right_inv r := row_bOf_nOf r

/-- A sum over the rows is a sum over the batches and the pixels. -/
theorem sum_rows (f : Fin 2 → Fin 4096 → ℝ) : ∑ r, f (bOf r) (nOf r) = ∑ b, ∑ n, f b n := by
  rw [← Fintype.sum_prod_type' f]
  exact (Fintype.sum_equiv rowEquiv _ _ fun p => by
    show f p.1 p.2 = f (bOf (row p.1 p.2)) (nOf (row p.1 p.2))
    rw [bOf_row, nOf_row]).symm

/-- The mean of the squares less the square of the mean is the mean of the squared deviations. -/
theorem var_eq {ι : Type*} [Fintype ι] (f : ι → ℝ) {c : ℝ} (hc : (Fintype.card ι : ℝ) = c) (h0 : c ≠ 0) :
    (∑ i, f i * f i) / c - (∑ i, f i) / c * ((∑ i, f i) / c)
      = (∑ i, (f i - (∑ i, f i) / c) * (f i - (∑ i, f i) / c)) / c := by
  have h : ∀ m : ℝ, ∑ i, (f i - m) * (f i - m) = ∑ i, f i * f i - 2 * m * ∑ i, f i + c * (m * m) := by
    intro m
    have : ∀ i, (f i - m) * (f i - m) = f i * f i - 2 * m * f i + m * m := fun i => by ring
    simp only [this, Finset.sum_add_distrib, Finset.sum_sub_distrib, ← Finset.mul_sum, Finset.sum_const, Finset.card_univ,
      nsmul_eq_mul, hc]
    ring
  rw [h]
  field_simp
  ring

/-- A variance is not negative. -/
theorem var_nonneg {ι : Type*} [Fintype ι] (f : ι → ℝ) {c : ℝ} (h0 : 0 ≤ c) :
    0 ≤ (∑ i, f i * f i) / c :=
  div_nonneg (Finset.sum_nonneg fun i _ => mul_self_nonneg _) h0

namespace In
variable (P : In)

theorem mu0_rows (o : Fin 96) : P.mu0 o = (∑ r, P.h (bOf r) (nOf r) o) / 8192 := by
  rw [sum_rows fun b n => P.h b n o]; rfl

theorem va0_rows (o : Fin 96) :
    (∑ r, P.h (bOf r) (nOf r) o * P.h (bOf r) (nOf r) o) / 8192 - P.mu0 o * P.mu0 o = P.va0 o := by
  rw [P.mu0_rows, var_eq (fun r => P.h (bOf r) (nOf r) o) (by simp) (by norm_num), ← P.mu0_rows,
    sum_rows fun b n => (P.h b n o - P.mu0 o) * (P.h b n o - P.mu0 o)]
  rfl

theorem va0_nonneg (o : Fin 96) : 0 ≤ P.va0 o :=
  div_nonneg (Finset.sum_nonneg fun _ _ => Finset.sum_nonneg fun _ _ => mul_self_nonneg _) (by norm_num)

theorem va0_pos (o : Fin 96) : 0 < P.va0 o + e5 := add_pos_of_nonneg_of_pos (P.va0_nonneg o) e5_pos

theorem va1_nonneg (o : Fin 96) : 0 ≤ P.va1 o :=
  div_nonneg (Finset.sum_nonneg fun _ _ => Finset.sum_nonneg fun _ _ => Finset.sum_nonneg fun _ _ => mul_self_nonneg _)
    (by norm_num)

theorem va1_pos (o : Fin 96) : 0 < P.va1 o + e5 := add_pos_of_nonneg_of_pos (P.va1_nonneg o) e5_pos

theorem ex_nonneg (b : Fin 2) (n : Fin 4096) (k : Fin 32) : 0 ≤ P.ex b n k := by
  unfold ex; split
  exacts [(Real.exp_pos _).le, le_rfl]

theorem sm_nonneg (b : Fin 2) (n : Fin 4096) (k : Fin 32) : 0 ≤ P.sm b n k :=
  div_nonneg (P.ex_nonneg b n k) (Finset.sum_nonneg fun _ _ => P.ex_nonneg b n _)

theorem dn_nonneg (b : Fin 2) (k : Fin 32) : 0 ≤ P.dn b k := Finset.sum_nonneg fun _ _ => P.sm_nonneg _ _ _

theorem dn_pos (b : Fin 2) (k : Fin 32) : 0 < P.dn b k + e9 := add_pos_of_nonneg_of_pos (P.dn_nonneg b k) e9_pos

theorem nr0_pos (b : Fin 2) (k : Fin 32) : 0 < max (P.nr0 b k) e12 := lt_max_of_lt_right e12_pos

theorem nr1_pos (b : Fin 2) : 0 < max (P.nr1 b) e12 := lt_max_of_lt_right e12_pos

/-- The normalisation folded into one scale and one offset. -/
theorem z_affine (b : Fin 2) (n : Fin 4096) (o : Fin 96) :
    max (((P.h b n o * (P.g0 o * (√(P.va0 o + e5))⁻¹) : ℝ) : EReal)
      + (P.bo o - ((P.mu0 o * (P.g0 o * (√(P.va0 o + e5))⁻¹) : ℝ) : EReal))) 0 = P.zE b n o := by
  unfold zE
  rw [sub_eq_add_neg, ← add_assoc, add_right_comm, ← EReal.coe_neg, ← EReal.coe_add]
  congr 3
  ring

/-- The exponent with its square multiplied out. -/
theorem L_expand (b : Fin 2) (n : Fin 4096) (k : Fin 32) :
    ∑ c, P.z b n c * P.z b n c * (-(1 / 2) / (P.sg k c * P.sg k c))
      + ∑ c, P.z b n c * (P.anc k c * (-(1 / 2) / (P.sg k c * P.sg k c)) * -2)
      + ∑ c, P.anc k c * P.anc k c * (-(1 / 2) / (P.sg k c * P.sg k c)) = P.L b n k := by
  unfold L rs
  rw [← Finset.sum_add_distrib, ← Finset.sum_add_distrib, Finset.mul_sum]
  refine Finset.sum_congr rfl fun c _ => ?_
  have := (P.sg_pos k c).ne'
  field_simp
  ring

/-- The weighted mean with the anchor taken out of the sum. -/
theorem nd0_expand (b : Fin 2) (k : Fin 32) (c : Fin 96) :
    (∑ n, P.sm b n k * P.z b n c - P.anc k c * P.dn b k) / P.sg k c / (P.dn b k + e9) = P.nd0 b k c := by
  unfold nd0
  congr 1
  unfold rs dn
  rw [Finset.mul_sum, ← Finset.sum_sub_distrib, Finset.sum_div]
  refine Finset.sum_congr rfl fun n _ => ?_
  ring

/-- The squared distance with its square multiplied out. -/
theorem d2_expand (b : Fin 2) (n : Fin 4096) (b' : Fin 2) (k : Fin 32) :
    ∑ c, P.x b n c * P.x b n c - 2 * ∑ c, P.x b n c * P.feat b' k c + ∑ c, P.feat b' k c * P.feat b' k c
      = ∑ c, (P.x b n c - P.feat b' k c) * (P.x b n c - P.feat b' k c) := by
  rw [Finset.mul_sum, ← Finset.sum_sub_distrib, ← Finset.sum_add_distrib]
  exact Finset.sum_congr rfl fun c _ => by ring

end In
end GraphBlock
-- ==== Proof.Spread.lean ====
/- The second product as a part of the node plus a part of the pixel, and its mean and variance. -/
module

public import proofs.«01_k».proof.Proof.Rows

@[expose] public section

noncomputable section

namespace GraphBlock

namespace In
variable (P : In)

/-- The row, in the table of all nodes, of neighbour `j` of the pixel of row `r`. -/
def idx (r : Fin 8192) (j : Fin 5) : Fin 64 := node (bOf r) (P.nb (bOf r) (nOf r) j)

/-- The part of the second product that comes from a node. -/
def gn (k : Fin 64) (o : Fin 96) : ℝ := ∑ c : Fin 96, P.feat (bNode k) (kNode k) c * P.W1 o ⟨c.val, by omega⟩

/-- The part of the second product that comes from the pixel. -/
def pp (r : Fin 8192) (o : Fin 96) : ℝ :=
  ∑ c : Fin 96, P.x (bOf r) (nOf r) c * (P.W1 o ⟨96 + c.val, by omega⟩ - P.W1 o ⟨c.val, by omega⟩)

/-- Whether neighbour `j` of a row is node `k`, as a number. -/
def hot (j : Fin 5) (r : Fin 8192) (k : Fin 64) : ℝ := if k = P.idx r j then 1 else 0

/-- How often a node is among the neighbours of a row. -/
def cnt (r : Fin 8192) (k : Fin 64) : ℝ := ∑ j, P.hot j r k

theorem y_split (r : Fin 8192) (j : Fin 5) (o : Fin 96) :
    P.y (bOf r) (nOf r) j o = P.gn (P.idx r j) o + P.pp r o := by
  unfold y gn pp idx
  rw [bNode_node, kNode_node, ← Finset.sum_add_distrib, ← Finset.sum_add_distrib]
  exact Finset.sum_congr rfl fun c _ => by ring

/-- A row with a single one picks one number. -/
theorem hot_sum (j : Fin 5) (r : Fin 8192) (f : Fin 64 → ℝ) : ∑ k, P.hot j r k * f k = f (P.idx r j) := by
  simp [hot]

theorem cnt_sum (r : Fin 8192) (f : Fin 64 → ℝ) : ∑ k, P.cnt r k * f k = ∑ j, f (P.idx r j) := by
  simp only [cnt, Finset.sum_mul]
  rw [Finset.sum_comm]
  exact Finset.sum_congr rfl fun j _ => P.hot_sum j r f

theorem total_sum (f : Fin 64 → ℝ) : ∑ k, (∑ r, P.cnt r k) * f k = ∑ r, ∑ j, f (P.idx r j) := by
  simp only [Finset.sum_mul]
  rw [Finset.sum_comm]
  exact Finset.sum_congr rfl fun r _ => P.cnt_sum r f

/-- A sum over batches, pixels and neighbours, by rows. -/
theorem sum_all (f : Fin 2 → Fin 4096 → Fin 5 → ℝ) :
    ∑ b, ∑ n, ∑ j, f b n j = ∑ r, ∑ j, f (bOf r) (nOf r) j :=
  (sum_rows fun b n => ∑ j, f b n j).symm

/-- The sum of the second product of a channel. -/
theorem sum_y (o : Fin 96) :
    5 * (∑ r, P.pp r o) + ∑ k, (∑ r, P.cnt r k) * P.gn k o = ∑ r, ∑ j, P.y (bOf r) (nOf r) j o := by
  rw [P.total_sum fun k => P.gn k o, Finset.mul_sum, ← Finset.sum_add_distrib]
  refine Finset.sum_congr rfl fun r _ => ?_
  simp only [y_split, Finset.sum_add_distrib, Finset.sum_const, Finset.card_univ, Fintype.card_fin, nsmul_eq_mul]
  push_cast; ring

/-- The sum of its squares. -/
theorem sum_yy (o : Fin 96) :
    5 * (∑ r, P.pp r o * P.pp r o) + (∑ k, (∑ r, P.cnt r k) * (P.gn k o * P.gn k o))
        + 2 * (∑ k, P.gn k o * ∑ r, P.cnt r k * P.pp r o)
      = ∑ r, ∑ j, P.y (bOf r) (nOf r) j o * P.y (bOf r) (nOf r) j o := by
  have h : ∑ k, P.gn k o * ∑ r, P.cnt r k * P.pp r o = ∑ r, ∑ j, P.gn (P.idx r j) o * P.pp r o := by
    simp only [Finset.mul_sum]
    rw [Finset.sum_comm]
    refine Finset.sum_congr rfl fun r _ => ?_
    rw [← P.cnt_sum r fun k => P.gn k o * P.pp r o]
    exact Finset.sum_congr rfl fun k _ => by ring
  rw [P.total_sum fun k => P.gn k o * P.gn k o, h, Finset.mul_sum, Finset.mul_sum, ← Finset.sum_add_distrib,
    ← Finset.sum_add_distrib]
  refine Finset.sum_congr rfl fun r _ => ?_
  have e : ∀ j, P.y (bOf r) (nOf r) j o * P.y (bOf r) (nOf r) j o
      = P.pp r o * P.pp r o + P.gn (P.idx r j) o * P.gn (P.idx r j) o + 2 * (P.gn (P.idx r j) o * P.pp r o) := by
    intro j; rw [y_split]; ring
  simp only [e, Finset.sum_add_distrib, Finset.sum_const, Finset.card_univ, Fintype.card_fin, nsmul_eq_mul,
    ← Finset.mul_sum]
  push_cast; ring

/-- The mean, from the parts. -/
theorem mu1_parts (o : Fin 96) :
    (5 * (∑ r, P.pp r o) + ∑ k, (∑ r, P.cnt r k) * P.gn k o) / 40960 = P.mu1 o := by
  rw [sum_y, mu1, sum_all fun b n j => P.y b n j o]

/-- The variance, from the parts. -/
theorem va1_parts (o : Fin 96) :
    (5 * (∑ r, P.pp r o * P.pp r o) + (∑ k, (∑ r, P.cnt r k) * (P.gn k o * P.gn k o))
        + 2 * (∑ k, P.gn k o * ∑ r, P.cnt r k * P.pp r o)) / 40960 - P.mu1 o * P.mu1 o = P.va1 o := by
  have hv := var_eq (fun q : Fin 8192 × Fin 5 => P.y (bOf q.1) (nOf q.1) q.2 o) (c := 40960)
    (by simp [Fintype.card_prod]) (by norm_num)
  simp only [Fintype.sum_prod_type] at hv
  have hm : (∑ r, ∑ j, P.y (bOf r) (nOf r) j o) / 40960 = P.mu1 o := by
    rw [mu1, sum_all fun b n j => P.y b n j o]
  rw [hm] at hv
  rw [sum_yy, hv, va1, sum_all fun b n j => (P.y b n j o - P.mu1 o) * (P.y b n j o - P.mu1 o)]

/-- The scale of the last map. -/
def a1 (o : Fin 96) : ℝ := P.g1 o * (√(P.va1 o + e5))⁻¹

/-- The largest node part among the neighbours. -/
def gmax (r : Fin 8192) (o : Fin 96) : ℝ := Finset.univ.sup' Finset.univ_nonempty fun j => P.gn (P.idx r j) o

theorem yn_affine (r : Fin 8192) (j : Fin 5) (o : Fin 96) :
    P.yn (bOf r) (nOf r) j o = P.a1 o * (P.gn (P.idx r j) o + P.pp r o) - P.a1 o * P.mu1 o := by
  rw [yn, y_split, a1, div_eq_mul_inv]; ring

/-- The largest first, then the map and the cut: the same as the map and the cut of each, then the largest. -/
theorem res_max (hg : ∀ o, 0 ≤ P.g1 o) (be : Fin 96 → EReal) (r : Fin 8192) (o : Fin 96) :
    ((P.x (bOf r) (nOf r) o : ℝ) : EReal)
        + max (((P.a1 o * (P.gmax r o + P.pp r o) : ℝ) : EReal) + (be o - ((P.a1 o * P.mu1 o : ℝ) : EReal))) 0
      = P.res be (bOf r) (nOf r) o := by
  have ha : 0 ≤ P.a1 o := mul_nonneg (hg o) (inv_nonneg.mpr (Real.sqrt_nonneg _))
  have hassoc : ∀ u v : ℝ, (u : EReal) + (be o - (v : EReal)) = ((u - v : ℝ) : EReal) + be o := by
    intro u v
    rw [sub_eq_add_neg, sub_eq_add_neg, EReal.coe_add, EReal.coe_neg, add_assoc, add_comm (be o)]
  have hterm : ∀ j, ((P.yn (bOf r) (nOf r) j o : ℝ) : EReal) + be o
      = ((P.a1 o * (P.gn (P.idx r j) o + P.pp r o) : ℝ) : EReal) + (be o - ((P.a1 o * P.mu1 o : ℝ) : EReal)) := by
    intro j; rw [hassoc, yn_affine]
  unfold res
  congr 1
  simp only [hterm]
  generalize be o - ((P.a1 o * P.mu1 o : ℝ) : EReal) = w
  apply le_antisymm
  · obtain ⟨j, -, hj⟩ := Finset.exists_mem_eq_sup' Finset.univ_nonempty fun j => P.gn (P.idx r j) o
    have hj' : P.gmax r o = P.gn (P.idx r j) o := hj
    rw [hj']
    exact Finset.le_sup (f := fun j => max (((P.a1 o * (P.gn (P.idx r j) o + P.pp r o) : ℝ) : EReal) + w) 0)
      (Finset.mem_univ j)
  · refine Finset.sup_le fun j _ => max_le_max ?_ le_rfl
    refine add_le_add (EReal.coe_le_coe_iff.mpr (mul_le_mul_of_nonneg_left ?_ ha)) le_rfl
    exact add_le_add (Finset.le_sup' (fun j => P.gn (P.idx r j) o) (Finset.mem_univ j)) le_rfl

end In
end GraphBlock
-- ==== Proof.SecondKernel.lean ====
/- The second kernel, at an index: the gathers by one-hot products, the mean and variance, the result. -/
module

public import proofs.«01_k».proof.Proof.Spread
public import proofs.«01_k».proof.Proof.KernelRun
public import Idealize.ShloMosaic.Lib.Pointwise

@[expose] public section

set_option maxRecDepth 16384

noncomputable section

namespace GraphBlock

open Idealize.ShloMosaic Cert.KernelIdeal Cert.KernelIdeal.Gen

/-- The arrays the second kernel reads hold the real numbers of `P`, the picks and the last offset. -/
structure Reads2 (P : In) (be : Fin 96 → EReal) (x0 : Vec Ideal S8192x96 .f32) (x1 : Vec Ideal S64x96 .f32)
    (x2 : Vec Ideal S96x192 .f32) (x3 : Vec Ideal S8192x5 .i32) (x4 : Vec Ideal S1x96 .f32) (x5 : Vec Ideal S1x96 .f32) : Prop where
  hx : ∀ r c, x0 (ix2 r c) = ((P.x (bOf r) (nOf r) c : ℝ) : EReal)
  hf : ∀ k c, x1 (ix2 k c) = ((P.feat (bNode k) (kNode k) c : ℝ) : EReal)
  hW : ∀ o i, x2 (ix2 o i) = ((P.W1 o i : ℝ) : EReal)
  hi : ∀ r j, x3 (ix2 r j) = BitVec.ofNat 32 (P.idx r j).val
  hg : ∀ o, x4 (ix2 0 o) = ((P.g1 o : ℝ) : EReal)
  hb : ∀ o, x5 (ix2 0 o) = be o

variable {P : In} {be : Fin 96 → EReal} {x0 : Vec Ideal S8192x96 .f32} {x1 : Vec Ideal S64x96 .f32}
    {x2 : Vec Ideal S96x192 .f32} {x3 : Vec Ideal S8192x5 .i32} {x4 : Vec Ideal S1x96 .f32} {x5 : Vec Ideal S1x96 .f32}

/-- The node parts. -/
theorem q24_real (H : Reads2 P be x0 x1 x2 x3 x4 x5) (k : Fin 64) (o : Fin 96) :
    k1_pay24 x0 x1 x2 x3 x4 x5 (ix2 k o) = ((P.gn k o : ℝ) : EReal) := by
  pointwise [k1_pay24, k1_pay6, k1_pay4]
  simp only [H.hf, H.hW, ← EReal.coe_mul, sum_real]
  rfl

/-- The pixel parts. -/
theorem q25_real (H : Reads2 P be x0 x1 x2 x3 x4 x5) (r : Fin 8192) (o : Fin 96) :
    k1_pay25 x0 x1 x2 x3 x4 x5 (ix2 r o) = ((P.pp r o : ℝ) : EReal) := by
  pointwise [k1_pay25, k1_pay7, k1_pay5, k1_pay4]
  simp only [H.hx, H.hW, ← EReal.coe_mul, ← EReal.coe_sub, sum_real]
  rfl

/-- A comparison of two lanes, turned into a number. -/
theorem eq_number (k m : Fin 64) :
    FloatOps.sitofp (F := Ideal) .f32 ((IntOp.cmpi .eq (BitVec.ofNat 32 k.val) (BitVec.ofNat 32 m.val)).setWidth 32)
      = (((if k = m then 1 else 0 : ℝ)) : EReal) := by
  show (((((IntOp.cmpi .eq (BitVec.ofNat 32 k.val) (BitVec.ofNat 32 m.val)).setWidth 32).toInt : ℤ) : ℝ) : EReal) = _
  by_cases h : k = m
  · subst h; simp [IntOp.cmpi]
  · have hne : BitVec.ofNat 32 k.val ≠ BitVec.ofNat 32 m.val := by
      intro he
      have := congrArg BitVec.toNat he
      simp only [BitVec.toNat_ofNat] at this
      exact h (Fin.ext (by omega))
    simp [IntOp.cmpi, beq_eq_false_iff_ne.mpr hne, h]

theorem q9_real (H : Reads2 P be x0 x1 x2 x3 x4 x5) (r : Fin 8192) (k : Fin 64) :
    k1_pay9 (F := Ideal) (View.ld x3 r1_3) (ix2 r k) = ((P.hot 0 r k : ℝ) : EReal) := by
  pointwise [k1_pay9, k1_pay8]
  rw [H.hi, eq_number]; rfl

theorem q10_real (H : Reads2 P be x0 x1 x2 x3 x4 x5) (r : Fin 8192) (k : Fin 64) :
    k1_pay10 (F := Ideal) (View.ld x3 r1_3) (ix2 r k) = ((P.hot 1 r k : ℝ) : EReal) := by
  pointwise [k1_pay10, k1_pay8]
  rw [H.hi, eq_number]; rfl

theorem q11_real (H : Reads2 P be x0 x1 x2 x3 x4 x5) (r : Fin 8192) (k : Fin 64) :
    k1_pay11 (F := Ideal) (View.ld x3 r1_3) (ix2 r k) = ((P.hot 2 r k : ℝ) : EReal) := by
  pointwise [k1_pay11, k1_pay8]
  rw [H.hi, eq_number]; rfl

theorem q12_real (H : Reads2 P be x0 x1 x2 x3 x4 x5) (r : Fin 8192) (k : Fin 64) :
    k1_pay12 (F := Ideal) (View.ld x3 r1_3) (ix2 r k) = ((P.hot 3 r k : ℝ) : EReal) := by
  pointwise [k1_pay12, k1_pay8]
  rw [H.hi, eq_number]; rfl

theorem q16_real (H : Reads2 P be x0 x1 x2 x3 x4 x5) (r : Fin 8192) (k : Fin 64) :
    k1_pay16 (F := Ideal) (k1_pay27 (F := Ideal) x0 x1 x2 x3 x4 x5) (ix2 r k) = ((P.hot 4 r k : ℝ) : EReal) := by
  pointwise [k1_pay16, k1_pay27, k1_pay15, k1_pay8]
  rw [H.hi, eq_number]; rfl

/-- How often each node is among the neighbours of a row. -/
theorem q17_real (H : Reads2 P be x0 x1 x2 x3 x4 x5) (r : Fin 8192) (k : Fin 64) :
    k1_pay17 (F := Ideal) (k1_pay26 x0 x1 x2 x3 x4 x5) (k1_pay27 (F := Ideal) x0 x1 x2 x3 x4 x5) (ix2 r k)
      = ((P.cnt r k : ℝ) : EReal) := by
  have h0 := q9_real H r k
  have h1 := q10_real H r k
  have h2 := q11_real H r k
  have h3 := q12_real H r k
  have h4 := q16_real H r k
  unfold k1_pay17 k1_pay26 k1_pay13
  generalize k1_pay9 (F := Ideal) (View.ld x3 r1_3) = u0 at *
  generalize k1_pay10 (F := Ideal) (View.ld x3 r1_3) = u1 at *
  generalize k1_pay11 (F := Ideal) (View.ld x3 r1_3) = u2 at *
  generalize k1_pay12 (F := Ideal) (View.ld x3 r1_3) = u3 at *
  generalize k1_pay16 (F := Ideal) (k1_pay27 (F := Ideal) x0 x1 x2 x3 x4 x5) = u4 at *
  pointwise
  rw [h0, h1, h2, h3, h4]
  simp only [← EReal.coe_add]
  congr 1
  simp only [In.cnt, Fin.sum_univ_five]

/-- The largest node part among the neighbours. -/
theorem q28_real (H : Reads2 P be x0 x1 x2 x3 x4 x5) (r : Fin 8192) (o : Fin 96) :
    k1_pay28 x0 x1 x2 x3 x4 x5 (ix2 r o) = ((P.gmax r o : ℝ) : EReal) := by
  have h0 := q9_real H r
  have h1 := q10_real H r
  have h2 := q11_real H r
  have h3 := q12_real H r
  have h4 := q16_real H r
  have hg := q24_real H
  unfold k1_pay28 k1_pay18 k1_pay14
  change (maximumf (maximumf (maximumf (maximumf
    (matmul dot_S8192x64_S64x96_S8192x96_1_0_0_1_n_n none (k1_pay9 (View.ld x3 r1_3)) (k1_pay24 x0 x1 x2 x3 x4 x5) _)
    (matmul dot_S8192x64_S64x96_S8192x96_1_0_0_1_n_n none (k1_pay10 (View.ld x3 r1_3)) (k1_pay24 x0 x1 x2 x3 x4 x5) _))
    (matmul dot_S8192x64_S64x96_S8192x96_1_0_0_1_n_n none (k1_pay11 (View.ld x3 r1_3)) (k1_pay24 x0 x1 x2 x3 x4 x5) _))
    (matmul dot_S8192x64_S64x96_S8192x96_1_0_0_1_n_n none (k1_pay12 (View.ld x3 r1_3)) (k1_pay24 x0 x1 x2 x3 x4 x5) _)) _) _ = _
  generalize k1_pay24 x0 x1 x2 x3 x4 x5 = g at *
  generalize k1_pay9 (F := Ideal) (View.ld x3 r1_3) = u0 at *
  generalize k1_pay10 (F := Ideal) (View.ld x3 r1_3) = u1 at *
  generalize k1_pay11 (F := Ideal) (View.ld x3 r1_3) = u2 at *
  generalize k1_pay12 (F := Ideal) (View.ld x3 r1_3) = u3 at *
  generalize k1_pay16 (F := Ideal) (k1_pay27 (F := Ideal) x0 x1 x2 x3 x4 x5) = u4 at *
  pointwise
  simp only [h0, h1, h2, h3, h4, hg, ← EReal.coe_mul, sum_real, P.hot_sum, max_real]
  congr 1
  unfold In.gmax
  apply le_antisymm
  · simp only [max_le_iff]
    refine ⟨⟨⟨⟨?_, ?_⟩, ?_⟩, ?_⟩, ?_⟩ <;>
      exact Finset.le_sup' (fun j => P.gn (P.idx r j) o) (Finset.mem_univ _)
  · refine Finset.sup'_le _ _ fun j _ => ?_
    fin_cases j <;> simp

/-- The mean of the second product. -/
theorem q29_real (H : Reads2 P be x0 x1 x2 x3 x4 x5) (o : Fin 96) :
    k1_pay29 x0 x1 x2 x3 x4 x5 (ix2 0 o) = ((P.mu1 o : ℝ) : EReal) := by
  have hg := q24_real H
  have hp := q25_real H
  have hc := q17_real H
  unfold k1_pay29 k1_pay20 k1_pay19
  generalize k1_pay24 x0 x1 x2 x3 x4 x5 = g at *
  generalize k1_pay25 x0 x1 x2 x3 x4 x5 = p at *
  generalize k1_pay17 (F := Ideal) (k1_pay26 x0 x1 x2 x3 x4 x5) (k1_pay27 (F := Ideal) x0 x1 x2 x3 x4 x5) = u at *
  pointwise
  simp only [hg, hp, hc, lit_five, lit_40960, ← EReal.coe_mul, sum_real, ← EReal.coe_add]
  rw [div_real (by norm_num), P.mu1_parts]

/-- The scale of the last map. -/
theorem q30_real (H : Reads2 P be x0 x1 x2 x3 x4 x5) (o : Fin 96) :
    k1_pay30 x0 x1 x2 x3 x4 x5 (ix2 0 o) = ((P.a1 o : ℝ) : EReal) := by
  have hg := q24_real H
  have hp := q25_real H
  have hc := q17_real H
  have hm := q29_real H
  unfold k1_pay29 at hm
  unfold k1_pay30 k1_pay21 k1_pay19
  generalize k1_pay20 (k1_pay24 x0 x1 x2 x3 x4 x5) (k1_pay25 x0 x1 x2 x3 x4 x5) (k1_pay26 x0 x1 x2 x3 x4 x5)
    (k1_pay27 (F := Ideal) x0 x1 x2 x3 x4 x5) = m at *
  generalize k1_pay24 x0 x1 x2 x3 x4 x5 = g at *
  generalize k1_pay25 x0 x1 x2 x3 x4 x5 = p at *
  generalize k1_pay17 (F := Ideal) (k1_pay26 x0 x1 x2 x3 x4 x5) (k1_pay27 (F := Ideal) x0 x1 x2 x3 x4 x5) = u at *
  pointwise
  simp only [hg, hp, hc, hm, H.hg, lit_five, lit_two, lit_40960, lit_e5, ← EReal.coe_mul, sum_real, ← EReal.coe_add]
  rw [div_real (by norm_num), ← EReal.coe_sub, P.va1_parts, ← EReal.coe_add, rsqrt_real (P.va1_pos o), ← EReal.coe_mul]
  rfl

/-- The result by rows. -/
theorem q1_real (H : Reads2 P be x0 x1 x2 x3 x4 x5) (h1 : ∀ o, 0 ≤ P.g1 o) (r : Fin 8192) (o : Fin 96) :
    k1_pay1 (k1_pay23 x0 x1 x2 x3 x4 x5) (k1_pay25 x0 x1 x2 x3 x4 x5) (k1_pay28 x0 x1 x2 x3 x4 x5)
        (k1_pay29 x0 x1 x2 x3 x4 x5) (k1_pay30 x0 x1 x2 x3 x4 x5) (k1_pay31 x0 x1 x2 x3 x4 x5) (ix2 r o)
      = P.res be (bOf r) (nOf r) o := by
  have hp := q25_real H r o
  have hm := q28_real H r o
  have hu := q29_real H o
  have ha := q30_real H o
  rw [← P.res_max h1]
  generalize k1_pay25 x0 x1 x2 x3 x4 x5 = p at *
  generalize k1_pay28 x0 x1 x2 x3 x4 x5 = g at *
  generalize k1_pay29 x0 x1 x2 x3 x4 x5 = m at *
  generalize k1_pay30 x0 x1 x2 x3 x4 x5 = a at *
  pointwise [k1_pay1, k1_pay23, k1_pay5, k1_pay31, k1_pay22]
  simp only [hp, hm, hu, ha, H.hx, H.hb, lit_zero, EReal.coe_zero, ← EReal.coe_mul, ← EReal.coe_add]

/-- The result array of the second kernel. -/
theorem out1_6_real (H : Reads2 P be x0 x1 x2 x3 x4 x5) (hg : ∀ o, 0 ≤ P.g1 o) (b : Fin 2) (o : Fin 96) (n : Fin 4096) :
    out1_6 x0 x1 x2 x3 x4 x5 (ix3 b o n) = P.res be b n o := by
  have hq := q1_real H hg
  unfold out1_6
  canon_tiles x h
  all_goals obtain ⟨p, o', n', rfl⟩ : ∃ (p : Fin 1) (o' : Fin 96) (n' : Fin 4096), x = ix3 p o' n' :=
    ⟨x 0, x 1, x 2, eq_ix3 x⟩
  all_goals obtain rfl : p = 0 := Subsingleton.elim _ _
  all_goals obtain rfl : o = o' := Fin.ext h1
  all_goals obtain rfl : n = n' := Fin.ext h2
  · obtain rfl : b = 1 := Fin.ext h0
    have hr := hq (row 1 n) o
    rw [bOf_row, nOf_row] at hr
    rw [← hr]
    unfold k1_pay3
    generalize k1_pay1 (F := Ideal) _ _ _ _ _ _ = w
    pointwise
    rfl
  · obtain rfl : b = 0 := Fin.ext h0
    have hr := hq (row 0 n) o
    have e : row 0 n = (⟨n.val, n.isLt.trans (by decide)⟩ : Fin 8192) := Fin.ext (by simp [row])
    rw [bOf_row, nOf_row, e] at hr
    rw [← hr]
    unfold k1_pay2
    generalize k1_pay1 (F := Ideal) _ _ _ _ _ _ = w
    pointwise

end GraphBlock
-- ==== Proof.Soft.lean ====
/-
  The soft assignment over the extended reals. An anchor may be infinite, and so may the first offset: the exponent of such
  a node is then minus infinity, in the kernel's form and in the reference's, and the node is zero in both.
-/
module

public import proofs.«01_k».proof.Proof.Rows

@[expose] public section

noncomputable section

namespace GraphBlock

open Idealize.ShloMosaic

/-- A sum with a term minus infinity is minus infinity. -/
theorem sum_bot {ι : Type*} [Fintype ι] (f : ι → EReal) (i : ι) (h : f i = ⊥) : ∑ j, f j = ⊥ := by
  classical
  rw [← Finset.add_sum_erase _ _ (Finset.mem_univ i), h, EReal.bot_add]

/-- A sum with a term plus infinity and no term minus infinity is plus infinity. -/
theorem sum_top {ι : Type*} [Fintype ι] (f : ι → EReal) (i : ι) (h : f i = ⊤) (hf : ∀ j, 0 ≤ f j) : ∑ j, f j = ⊤ := by
  classical
  rw [← Finset.add_sum_erase _ _ (Finset.mem_univ i), h]
  refine EReal.top_add_of_ne_bot fun hb => ?_
  have h0 : (0 : EReal) ≤ ∑ x ∈ Finset.univ.erase i, f x := Finset.sum_nonneg fun j _ => hf j
  rw [hb] at h0
  exact absurd h0 (by simp)

/-- A quotient by minus infinity is zero. -/
theorem div_bot (x : EReal) : Ideal.div x ⊥ = 0 := by
  simp [Ideal.div]

/-- The square of an extended real is not negative. -/
theorem square_nonneg (x : EReal) : 0 ≤ x * x := by
  induction x using EReal.rec with
  | bot => simp
  | top => simp
  | coe r => rw [← EReal.coe_mul]; exact EReal.coe_nonneg.mpr (mul_self_nonneg r)

namespace In
variable (P : In)

theorem zE_nonneg (b : Fin 2) (n : Fin 4096) (o : Fin 96) : 0 ≤ P.zE b n o := le_max_right _ _

theorem zE_top {o : Fin 96} (h : P.bo o = ⊤) (b : Fin 2) (n : Fin 4096) : P.zE b n o = ⊤ := by
  rw [zE, h, EReal.coe_add_top]; simp

theorem zE_real {o : Fin 96} (h : P.bo o ≠ ⊤) (b : Fin 2) (n : Fin 4096) : P.zE b n o = ((P.z b n o : ℝ) : EReal) := by
  refine (EReal.coe_toReal (fun ht => ?_) fun hb => ?_).symm
  · rcases max_eq_iff.mp ht with ⟨h1, -⟩ | ⟨h1, -⟩
    · revert h h1
      induction P.bo o using EReal.rec with
      | bot => simp
      | top => simp
      | coe r => intro _ h1; rw [← EReal.coe_add] at h1; exact EReal.coe_ne_top _ h1
    · simp at h1
  · have := P.zE_nonneg b n o
    rw [hb] at this
    simp at this

theorem an_real {k : Fin 32} (h : P.Ok k) (c : Fin 96) : P.an k c = ((P.anc k c : ℝ) : EReal) :=
  (EReal.coe_toReal (h.2 c).1 (h.2 c).2).symm

theorem not_ok {k : Fin 32} (h : ¬ P.Ok k) : (∃ c, P.bo c = ⊤) ∨ ∃ c, P.bo c ≠ ⊤ ∧ (P.an k c = ⊤ ∨ P.an k c = ⊥) := by
  by_contra hn
  push Not at hn
  exact h ⟨hn.1, fun c => hn.2 c (hn.1 c)⟩

theorem LE_of {k : Fin 32} (h : P.Ok k) (b : Fin 2) (n : Fin 4096) : P.LE b n k = ((P.L b n k : ℝ) : EReal) := if_pos h

theorem LE_of_not {k : Fin 32} (h : ¬ P.Ok k) (b : Fin 2) (n : Fin 4096) : P.LE b n k = ⊥ := if_neg h

/-- The kernel's exponent, the square multiplied out. -/
theorem LE_kernel (b : Fin 2) (n : Fin 4096) (k : Fin 32) :
    ∑ c, P.zE b n c * P.zE b n c * ((-(1 / 2) / (P.sg k c * P.sg k c) : ℝ) : EReal)
      + ∑ c, P.zE b n c * (P.an k c * ((-(1 / 2) / (P.sg k c * P.sg k c) : ℝ) : EReal) * ((-2 : ℝ) : EReal))
      + ∑ c, P.an k c * P.an k c * ((-(1 / 2) / (P.sg k c * P.sg k c) : ℝ) : EReal) = P.LE b n k := by
  have hneg : ∀ c, -(1 / 2) / (P.sg k c * P.sg k c) < 0 := fun c =>
    div_neg_of_neg_of_pos (by norm_num) (mul_pos (P.sg_pos k c) (P.sg_pos k c))
  by_cases h : P.Ok k
  · rw [P.LE_of h, ← P.L_expand]
    simp only [P.zE_real (h.1 _), P.an_real h, ← EReal.coe_mul, sum_real, ← EReal.coe_add]
  · rw [P.LE_of_not h]
    rcases P.not_ok h with ⟨c, hc⟩ | ⟨c, -, hc | hc⟩
    · rw [sum_bot _ c (by rw [P.zE_top hc, EReal.top_mul_top, EReal.top_mul_coe_of_neg (hneg c)]), EReal.bot_add,
        EReal.bot_add]
    · rw [sum_bot (fun c => P.an k c * P.an k c * _) c (by
        rw [hc, EReal.top_mul_top, EReal.top_mul_coe_of_neg (hneg c)]), EReal.add_bot]
    · rw [sum_bot (fun c => P.an k c * P.an k c * _) c (by
        rw [hc, EReal.bot_mul_bot, EReal.top_mul_coe_of_neg (hneg c)]), EReal.add_bot]

/-- The scaled distance of a pixel from an anchor, by channel. -/
def rsE (b : Fin 2) (n : Fin 4096) (k : Fin 32) (c : Fin 96) : EReal :=
  Ideal.div (P.zE b n c - P.an k c) ((P.sg k c : ℝ) : EReal)

theorem rsE_real {k : Fin 32} (h : P.Ok k) (b : Fin 2) (n : Fin 4096) (c : Fin 96) :
    P.rsE b n k c = ((P.rs b n k c : ℝ) : EReal) := by
  rw [rsE, P.zE_real (h.1 c), P.an_real h, ← EReal.coe_sub, div_real (P.sg_pos k c).ne']
  rfl

theorem div_top_pos {y : ℝ} (hy : 0 < y) : Ideal.div ⊤ (y : EReal) = ⊤ := by
  rw [Ideal.div_coe hy.ne']
  exact EReal.top_mul_coe_of_pos (by positivity)

theorem div_bot_pos {y : ℝ} (hy : 0 < y) : Ideal.div ⊥ (y : EReal) = ⊥ := by
  rw [Ideal.div_coe hy.ne']
  exact EReal.bot_mul_coe_of_pos (by positivity)

/-- A node at no finite distance has a channel whose scaled distance is infinite. -/
theorem rsE_infinite {k : Fin 32} (h : ¬ P.Ok k) (b : Fin 2) (n : Fin 4096) : ∃ c, P.rsE b n k c * P.rsE b n k c = ⊤ := by
  have key : ∀ c, P.zE b n c - P.an k c = ⊤ ∨ P.zE b n c - P.an k c = ⊥ → P.rsE b n k c * P.rsE b n k c = ⊤ := by
    rintro c (hc | hc)
    · rw [rsE, hc, div_top_pos (P.sg_pos k c), EReal.top_mul_top]
    · rw [rsE, hc, div_bot_pos (P.sg_pos k c), EReal.bot_mul_bot]
  rcases P.not_ok h with ⟨c, hc⟩ | ⟨c, hb, hc | hc⟩
  · refine ⟨c, key c ?_⟩
    rw [P.zE_top hc]
    induction P.an k c using EReal.rec with
    | bot => left; rfl
    | top => right; rfl
    | coe r => left; rfl
  · refine ⟨c, key c (.inr ?_)⟩
    rw [hc, P.zE_real hb]; rfl
  · refine ⟨c, key c (.inl ?_)⟩
    rw [hc, P.zE_real hb]; rfl

/-- The reference's exponent. -/
theorem LE_reference (b : Fin 2) (n : Fin 4096) (k : Fin 32) :
    ((-(1 / 2) : ℝ) : EReal) * ∑ c, P.rsE b n k c * P.rsE b n k c = P.LE b n k := by
  by_cases h : P.Ok k
  · rw [P.LE_of h]
    simp only [P.rsE_real h, ← EReal.coe_mul, sum_real]
    rfl
  · obtain ⟨c, hc⟩ := P.rsE_infinite h b n
    rw [P.LE_of_not h, sum_top _ c hc fun _ => square_nonneg _]
    exact EReal.coe_mul_top_of_neg (by norm_num)

/-- The exponential of an exponent less the largest one. -/
def exE (b : Fin 2) (n : Fin 4096) (k : Fin 32) : EReal := Ideal.exp (P.LE b n k - Finset.univ.sup (P.LE b n))

/-- The soft assignment of a pixel to a node. -/
def smE (b : Fin 2) (n : Fin 4096) (k : Fin 32) : EReal := Ideal.div (P.exE b n k) (∑ k', P.exE b n k')

/-- With one node at a finite distance the largest exponent is real. -/
theorem sup_LE {k₀ : Fin 32} (h : P.Ok k₀) (b : Fin 2) (n : Fin 4096) :
    Finset.univ.sup (P.LE b n) = ((P.top b n : ℝ) : EReal) := by
  refine (EReal.coe_toReal (ne_of_lt ?_) (ne_of_gt ?_)).symm
  · refine (Finset.sup_lt_iff bot_lt_top).mpr fun k _ => ?_
    unfold LE; split
    exacts [EReal.coe_lt_top _, bot_lt_top]
  · refine lt_of_lt_of_le ?_ (Finset.le_sup (Finset.mem_univ k₀))
    rw [P.LE_of h]
    exact EReal.bot_lt_coe _

theorem exE_real {k₀ : Fin 32} (h : P.Ok k₀) (b : Fin 2) (n : Fin 4096) (k : Fin 32) :
    P.exE b n k = ((P.ex b n k : ℝ) : EReal) := by
  rw [exE, P.sup_LE h, ex]
  split
  · rename_i hk
    rw [P.LE_of hk, ← EReal.coe_sub, Ideal.exp_coe]
  · rename_i hk
    rw [P.LE_of_not hk, sub_eq_add_neg, EReal.bot_add, Ideal.exp_bot]; rfl

/-- With one node at a finite distance the soft assignments are real. -/
theorem smE_real {k₀ : Fin 32} (h : P.Ok k₀) (b : Fin 2) (n : Fin 4096) (k : Fin 32) :
    P.smE b n k = ((P.sm b n k : ℝ) : EReal) := by
  have hpos : 0 < ∑ k', P.ex b n k' := by
    refine Finset.sum_pos' (fun k _ => P.ex_nonneg b n k) ⟨k₀, Finset.mem_univ _, ?_⟩
    rw [ex, if_pos h]
    exact Real.exp_pos _
  rw [smE]
  simp only [P.exE_real h, sum_real]
  exact div_real hpos.ne' _

/-- With no node at a finite distance every soft assignment is zero by zero. -/
theorem smE_none (h : ∀ k, ¬ P.Ok k) (b : Fin 2) (n : Fin 4096) (k : Fin 32) : P.smE b n k = ⊥ := by
  have he : ∀ k, P.exE b n k = 0 := fun k => by
    rw [exE, P.LE_of_not (h k), sub_eq_add_neg, EReal.bot_add, Ideal.exp_bot]
  rw [smE]
  simp [he, Ideal.div]

theorem sm_of_not {k : Fin 32} (h : ¬ P.Ok k) (b : Fin 2) (n : Fin 4096) : P.sm b n k = 0 := by
  rw [sm, ex, if_neg h, zero_div]

theorem nd0_of_not {k : Fin 32} (h : ¬ P.Ok k) (b : Fin 2) (c : Fin 96) : P.nd0 b k c = 0 := by
  rw [nd0]
  simp only [P.sm_of_not h, mul_zero, Finset.sum_const_zero, zero_div]

theorem div_zero_left {y : ℝ} (hy : y ≠ 0) : Ideal.div 0 (y : EReal) = 0 := by
  rw [Ideal.div_coe hy, zero_mul]

/-- The kernel's node, the anchor taken out of the sum. -/
theorem nd0_kernel (b : Fin 2) (k : Fin 32) (c : Fin 96) :
    Ideal.div (Ideal.div (∑ n, P.smE b n k * P.zE b n c - P.an k c * ∑ n, P.smE b n k) ((P.sg k c : ℝ) : EReal))
      (∑ n, P.smE b n k + ((e9 : ℝ) : EReal)) = ((P.nd0 b k c : ℝ) : EReal) := by
  by_cases h : ∃ k₀, P.Ok k₀
  · obtain ⟨k₀, h₀⟩ := h
    by_cases hk : P.Ok k
    · simp only [P.smE_real h₀, P.zE_real (hk.1 c), P.an_real hk, ← EReal.coe_mul, sum_real, ← EReal.coe_sub, ← EReal.coe_add]
      rw [div_real (P.sg_pos k c).ne', ← P.nd0_expand]
      exact div_real (P.dn_pos b k).ne' _
    · simp only [P.smE_real h₀, P.sm_of_not hk, EReal.coe_zero, zero_mul, mul_zero, Finset.sum_const_zero, sub_zero, zero_add,
        div_zero_left (P.sg_pos k c).ne', div_zero_left e9_pos.ne', P.nd0_of_not hk]
  · push Not at h
    rw [sum_bot (fun n => P.smE b n k) 0 (P.smE_none h b 0 k), EReal.bot_add, div_bot, P.nd0_of_not (h k)]
    rfl

/-- The reference's node. -/
theorem nd0_reference (b : Fin 2) (k : Fin 32) (c : Fin 96) :
    Ideal.div (∑ n, P.rsE b n k c * P.smE b n k) (∑ n, P.smE b n k + ((e9 : ℝ) : EReal)) = ((P.nd0 b k c : ℝ) : EReal) := by
  by_cases h : ∃ k₀, P.Ok k₀
  · obtain ⟨k₀, h₀⟩ := h
    by_cases hk : P.Ok k
    · simp only [P.smE_real h₀, P.rsE_real hk, ← EReal.coe_mul, sum_real, ← EReal.coe_add]
      exact div_real (P.dn_pos b k).ne' _
    · simp only [P.smE_real h₀, P.sm_of_not hk, EReal.coe_zero, mul_zero, Finset.sum_const_zero, zero_add,
        div_zero_left e9_pos.ne', P.nd0_of_not hk]
  · push Not at h
    rw [sum_bot (fun n => P.smE b n k) 0 (P.smE_none h b 0 k), EReal.bot_add, div_bot, P.nd0_of_not (h k)]
    rfl

end In
end GraphBlock

end
-- ==== Proof.SoftAssign.lean ====
/- The first kernel from the gated product to the soft assignments, at an index. -/
module

public import proofs.«01_k».proof.Proof.Soft
public import proofs.«01_k».proof.Proof.KernelRun
public import Idealize.ShloMosaic.Lib.Pointwise

@[expose] public section

set_option maxRecDepth 16384

noncomputable section

namespace GraphBlock

open Idealize.ShloMosaic Cert.KernelIdeal Cert.KernelIdeal.Gen

/-- The arrays the first kernel reads hold the real numbers of `P`. -/
structure Reads (P : In) (x0 : Vec Ideal S2x96x4096 .f32) (x1 : Vec Ideal S2x1x4096 .f32) (x2 : Vec Ideal S96x96 .f32)
    (x3 : Vec Ideal S1x96 .f32) (x4 : Vec Ideal S1x96 .f32) (x5 : Vec Ideal S32x96 .f32) (x6 : Vec Ideal S32x96 .f32) : Prop where
  hx : ∀ b c n, x0 (ix3 b c n) = ((P.x b n c : ℝ) : EReal)
  hs : ∀ b n, Ideal.logistic (x1 (ix3 b 0 n)) = ((P.s b n : ℝ) : EReal)
  hW : ∀ o i, x2 (ix2 o i) = ((P.W0 o i : ℝ) : EReal)
  hg : ∀ o, x3 (ix2 0 o) = ((P.g0 o : ℝ) : EReal)
  hb : ∀ o, x4 (ix2 0 o) = P.bo o
  ha : ∀ k c, x5 (ix2 k c) = P.an k c
  hp : ∀ k c, Ideal.logistic (x6 (ix2 k c)) = ((P.sg k c : ℝ) : EReal)

variable {P : In} {x0 : Vec Ideal S2x96x4096 .f32} {x1 : Vec Ideal S2x1x4096 .f32} {x2 : Vec Ideal S96x96 .f32}
    {x3 : Vec Ideal S1x96 .f32} {x4 : Vec Ideal S1x96 .f32} {x5 : Vec Ideal S32x96 .f32} {x6 : Vec Ideal S32x96 .f32}

/-- The product of the gated image with the first weights. -/
theorem pay46_real (H : Reads P x0 x1 x2 x3 x4 x5 x6) (r : Fin 8192) (o : Fin 96) :
    k0_pay46 x0 x1 x2 x3 x4 x5 x6 (ix2 r o) = ((P.h (bOf r) (nOf r) o : ℝ) : EReal) := by
  pointwise [k0_pay46, k0_pay7, k0_pay3, k0_pay5]
  unfold In.h
  rw [← sum_real]
  refine Finset.sum_congr rfl fun i _ => ?_
  by_cases hr : r.val < 4096
  · have hb : bOf r = 0 := by apply Fin.ext; simp only [bOf]; show r.val / 4096 = 0; omega
    have hn : nOf r = ⟨r.val, hr⟩ := by apply Fin.ext; simp only [nOf]; omega
    rw [dif_pos hr, hb, hn, H.hs, H.hx, H.hW]
    push_cast; rfl
  · have hb : bOf r = 1 := by apply Fin.ext; simp only [bOf]; show r.val / 4096 = 1; omega
    have hn : nOf r = ⟨r.val - 4096, by omega⟩ := by apply Fin.ext; simp only [nOf]; omega
    rw [dif_neg hr, hb, hn, H.hs, H.hx, H.hW]
    push_cast; rfl

/-- The mean of each channel. -/
theorem pay47_real (H : Reads P x0 x1 x2 x3 x4 x5 x6) (o : Fin 96) :
    k0_pay47 x0 x1 x2 x3 x4 x5 x6 (ix2 0 o) = ((P.mu0 o : ℝ) : EReal) := by
  have h := fun r o => pay46_real H r o
  unfold k0_pay46 at h
  pointwise [k0_pay47, k0_pay8]
  simp only [h, lit_8192, sum_real]
  rw [div_real (by norm_num), P.mu0_rows]

/-- The variance of each channel. -/
theorem pay48_real (H : Reads P x0 x1 x2 x3 x4 x5 x6) (o : Fin 96) :
    k0_pay48 x0 x1 x2 x3 x4 x5 x6 (ix2 0 o) = ((P.va0 o : ℝ) : EReal) := by
  have h := fun r o => pay46_real H r o
  unfold k0_pay46 at h
  have h' := fun o => pay47_real H o
  unfold k0_pay47 at h'
  pointwise [k0_pay48, k0_pay9]
  simp only [h, h', lit_8192, sum_real, ← EReal.coe_mul]
  rw [div_real (by norm_num), ← EReal.coe_sub, P.va0_rows]

/-- The normalised product, cut off below zero. -/
theorem pay49_real (H : Reads P x0 x1 x2 x3 x4 x5 x6) (r : Fin 8192) (o : Fin 96) :
    k0_pay49 x0 x1 x2 x3 x4 x5 x6 (ix2 r o) = P.zE (bOf r) (nOf r) o := by
  pointwise [k0_pay49, k0_pay10]
  rw [pay46_real H, pay47_real H, pay48_real H, H.hg, H.hb, lit_e5, ← EReal.coe_add, rsqrt_real (P.va0_pos o),
    ← P.z_affine]
  push_cast; rfl

/-- The scales. -/
theorem pay50_real (H : Reads P x0 x1 x2 x3 x4 x5 x6) (k : Fin 32) (c : Fin 96) :
    k0_pay50 x0 x1 x2 x3 x4 x5 x6 (ix2 k c) = ((P.sg k c : ℝ) : EReal) := by
  pointwise [k0_pay50, k0_pay11]
  exact H.hp k c

/-- The exponential of the exponent less the largest one. -/
theorem pay51_real (H : Reads P x0 x1 x2 x3 x4 x5 x6) (r : Fin 8192) (k : Fin 32) :
    k0_pay51 x0 x1 x2 x3 x4 x5 x6 (ix2 r k)
      = P.exE (bOf r) (nOf r) k := by
  have hz := fun r o => pay49_real H r o
  unfold k0_pay49 at hz
  simp only [Ideal.ofBits_def] at hz
  have hg : ∀ k c, Ideal.logistic (x6 (ix2 k c)) = ((P.sg k c : ℝ) : EReal) := H.hp
  have hd : ∀ k c, Ideal.div ((-(1 / 2) : ℝ) : EReal) ((P.sg k c * P.sg k c : ℝ) : EReal)
      = ((-(1 / 2) / (P.sg k c * P.sg k c) : ℝ) : EReal) := fun k c =>
    div_real (mul_ne_zero (P.sg_pos k c).ne' (P.sg_pos k c).ne') _
  pointwise [k0_pay51, k0_pay13, k0_pay11, k0_pay12]
  simp only [hz, hg, H.ha, lit_neg_half, lit_neg_two, lit_bot, ← EReal.coe_mul, hd, P.LE_kernel, fold_max_eq_sup]
  rfl

/-- The sum of the exponentials. -/
theorem pay52_real (H : Reads P x0 x1 x2 x3 x4 x5 x6) (r : Fin 8192) (k : Fin 32) :
    k0_pay52 x0 x1 x2 x3 x4 x5 x6 (ix2 r k)
      = ∑ k', P.exE (bOf r) (nOf r) k' := by
  have h := fun r o => pay51_real H r o
  unfold k0_pay51 at h
  simp only [Ideal.ofBits_def] at h
  pointwise [k0_pay52, k0_pay14]
  simp only [h]

end GraphBlock
-- ==== Proof.Nodes.lean ====
/- The first kernel's nodes of one batch, at an index: weighted means, the two normalisations, the reading as another list. -/
module

public import proofs.«01_k».proof.Proof.SoftAssign

@[expose] public section

set_option maxRecDepth 16384

noncomputable section

namespace GraphBlock

open Idealize.ShloMosaic Cert.KernelIdeal Cert.KernelIdeal.Gen

/-- The weighted means of a batch, from its assignments `a`, its pixels `z`, the sums `d`, the scales and the anchors. -/
def means (g : FVec Ideal S32x96 .f32) (anc : Vec Ideal S32x96 .f32) (a : FVec Ideal S4096x32 .f32)
    (z : FVec Ideal S4096x96 .f32) (d : FVec Ideal S32x1 .f32) : FVec Ideal S32x96 .f32 :=
  divf (divf (subf (matmul dot_S4096x32_S4096x96_S32x96_0_0_1_1_n_n none a z (constant S32x96 .f32 0x00000000#32))
      (mulf anc (broadcastTo S32x96 d broadcasts_S32x1_S32x96))) g)
    (broadcastTo S32x96 (addf d (broadcast S32x1 (Scalar.ofBits .f32 0x3089705F#32))) broadcasts_S32x1_S32x96)

/-- Each node divided by its norm. -/
def unitRows (v : FVec Ideal S32x96 .f32) : FVec Ideal S32x96 .f32 :=
  divf v (broadcastTo S32x96 (maximumf (sqrt (shapeCast S32x1
    (multiReduction .add [1] S32 (mulf v v) 0x00000000#32 reduces_S32x96_S32 (.inl rfl) rfl) shapeCasts_S32_S32x1))
    (broadcast S32x1 (Scalar.ofBits .f32 0x2B8CBCCC#32))) broadcasts_S32x1_S32x96)

/-- All nodes divided by the norm of them all. -/
def unitAll (v : FVec Ideal S32x96 .f32) : FVec Ideal S32x96 .f32 :=
  divf v (broadcastTo S32x96 (maximumf (sqrt (broadcast S1x1 (extractAt ![0, 0, 0] (shapeCast S1x1x1
    (multiReduction .add [1, 2] S1 (shapeCast S1x32x96 (mulf v v) shapeCasts_S32x96_S1x32x96) 0x00000000#32
      reduces_S1x32x96_S1 (.inl rfl) rfl) shapeCasts_S1_S1x1x1) inpos_S1x1x1_p0_0_0)))
    (broadcast S1x1 (Scalar.ofBits .f32 0x2B8CBCCC#32))) broadcasts_S1x1_S32x96)

/-- The nodes read again as a list of 96 times 32. -/
def relist (v : FVec Ideal S32x96 .f32) : FVec Ideal S32x96 .f32 :=
  shapeCast S32x96 (concatenate S32x32x3 2
    [⟨S32x32x1, shapeCast S32x32x1 (transpose S32x32 [1, 0] (extractStridedSlice S32x32 ![0, 0] v slices_S32x96_o0_0_S32x32)
        transposes_S32x32_p1_0_S32x32) shapeCasts_S32x32_S32x32x1⟩,
      ⟨S32x32x1, shapeCast S32x32x1 (transpose S32x32 [1, 0] (extractStridedSlice S32x32 ![0, 32] v slices_S32x96_o0_32_S32x32)
        transposes_S32x32_p1_0_S32x32) shapeCasts_S32x32_S32x32x1⟩,
      ⟨S32x32x1, shapeCast S32x32x1 (transpose S32x32 [1, 0] (extractStridedSlice S32x32 ![0, 64] v slices_S32x96_o0_64_S32x32)
        transposes_S32x32_p1_0_S32x32) shapeCasts_S32x32_S32x32x1⟩]
    concatenates_S32x32x1_S32x32x1_S32x32x1_S32x32x3_d2) shapeCasts_S32x32x3_S32x96

/-- The second batch's nodes are the four steps in turn. -/
theorem pay21_eq (v51 : FVec Ideal S32x96 .f32) (v52 : Vec Ideal S32x96 .f32) (v122 : FVec Ideal S4096x32 .f32)
    (v123 : FVec Ideal S4096x96 .f32) (v124 : FVec Ideal S32x1 .f32) :
    k0_pay21 v51 v52 v122 v123 v124 = relist (unitAll (unitRows (means v51 v52 v122 v123 v124))) := rfl

/-- The first batch's nodes are the four steps in turn, on the first half of the rows. -/
theorem pay17_eq (v49 : FVec Ideal S8192x96 .f32) (v51 : FVec Ideal S32x96 .f32) (v52 : Vec Ideal S32x96 .f32)
    (v73 : FVec Ideal S8192x32 .f32) (v76 : FVec Ideal S8192x32 .f32) :
    k0_pay17 v49 v51 v52 v73 v76 = relist (unitAll (unitRows (means v51 v52
      (extractStridedSlice S4096x32 ![0, 0] (k0_pay15 v73 v76) slices_S8192x32_o0_0_S4096x32)
      (extractStridedSlice S4096x96 ![0, 0] v49 slices_S8192x96_o0_0_S4096x96)
      (matmul dot_S4096x32_S4096x1_S32x1_0_0_1_1_n_n none
        (extractStridedSlice S4096x32 ![0, 0] (k0_pay15 v73 v76) slices_S8192x32_o0_0_S4096x32) (k0_pay16 (F := Ideal))
        (constant S32x1 .f32 0x00000000#32))))) := rfl

variable {P : In} {b : Fin 2}

theorem means_real {g : FVec Ideal S32x96 .f32} {anc : Vec Ideal S32x96 .f32} {a : FVec Ideal S4096x32 .f32}
    {z : FVec Ideal S4096x96 .f32} {d : FVec Ideal S32x1 .f32} (hg : ∀ k c, g (ix2 k c) = ((P.sg k c : ℝ) : EReal))
    (hanc : ∀ k c, anc (ix2 k c) = P.an k c) (ha : ∀ n k, a (ix2 n k) = P.smE b n k)
    (hz : ∀ n c, z (ix2 n c) = P.zE b n c) (hd : ∀ k, d (ix2 k 0) = ∑ n, P.smE b n k)
    (k : Fin 32) (c : Fin 96) : means g anc a z d (ix2 k c) = ((P.nd0 b k c : ℝ) : EReal) := by
  pointwise [means]
  simp only [hg, hanc, ha, hz, hd, lit_e9]
  exact P.nd0_kernel b k c

theorem unitRows_real {v : FVec Ideal S32x96 .f32} (hv : ∀ k c, v (ix2 k c) = ((P.nd0 b k c : ℝ) : EReal))
    (k : Fin 32) (c : Fin 96) : unitRows v (ix2 k c) = ((P.nd1 b k c : ℝ) : EReal) := by
  pointwise [unitRows]
  simp only [hv, lit_e12, ← EReal.coe_mul, sum_real]
  rw [sqrt_real (Finset.sum_nonneg fun _ _ => mul_self_nonneg _), max_real]
  exact div_real (P.nr0_pos b k).ne' _

theorem unitAll_real {v : FVec Ideal S32x96 .f32} (hv : ∀ k c, v (ix2 k c) = ((P.nd1 b k c : ℝ) : EReal))
    (k : Fin 32) (c : Fin 96) : unitAll v (ix2 k c) = ((P.nd2 b k c : ℝ) : EReal) := by
  pointwise [unitAll]
  simp only [hv, lit_e12, ← EReal.coe_mul, sum_real]
  rw [sqrt_real (Finset.sum_nonneg fun _ _ => Finset.sum_nonneg fun _ _ => mul_self_nonneg _), max_real]
  exact div_real (P.nr1_pos b).ne' _

theorem relist_real {v : FVec Ideal S32x96 .f32} (hv : ∀ k c, v (ix2 k c) = ((P.nd2 b k c : ℝ) : EReal))
    (k : Fin 32) (c : Fin 96) : relist v (ix2 k c) = ((P.feat b k c : ℝ) : EReal) := by
  pointwise [relist]
  unfold In.feat
  split
  · rw [hv]; congr 2 <;> (apply Fin.ext; dsimp only; omega)
  · split
    · rw [hv]; congr 2 <;> (apply Fin.ext; dsimp only; omega)
    · rw [hv]; congr 2 <;> (apply Fin.ext; dsimp only; omega)

/-- The four steps in turn give the nodes of the batch. -/
theorem nodes_real {g : FVec Ideal S32x96 .f32} {anc : Vec Ideal S32x96 .f32} {a : FVec Ideal S4096x32 .f32}
    {z : FVec Ideal S4096x96 .f32} {d : FVec Ideal S32x1 .f32} (hg : ∀ k c, g (ix2 k c) = ((P.sg k c : ℝ) : EReal))
    (hanc : ∀ k c, anc (ix2 k c) = P.an k c) (ha : ∀ n k, a (ix2 n k) = P.smE b n k)
    (hz : ∀ n c, z (ix2 n c) = P.zE b n c) (hd : ∀ k, d (ix2 k 0) = ∑ n, P.smE b n k)
    (k : Fin 32) (c : Fin 96) :
    relist (unitAll (unitRows (means g anc a z d))) (ix2 k c) = ((P.feat b k c : ℝ) : EReal) :=
  relist_real (unitAll_real (unitRows_real (means_real hg hanc ha hz hd))) k c

variable {x0 : Vec Ideal S2x96x4096 .f32} {x1 : Vec Ideal S2x1x4096 .f32} {x2 : Vec Ideal S96x96 .f32}
    {x3 : Vec Ideal S1x96 .f32} {x4 : Vec Ideal S1x96 .f32} {x5 : Vec Ideal S32x96 .f32} {x6 : Vec Ideal S32x96 .f32}

/-- The soft assignments. -/
theorem assign_real (H : Reads P x0 x1 x2 x3 x4 x5 x6) (r : Fin 8192) (k : Fin 32) :
    k0_pay15 (k0_pay51 x0 x1 x2 x3 x4 x5 x6) (k0_pay52 x0 x1 x2 x3 x4 x5 x6) (ix2 r k)
      = P.smE (bOf r) (nOf r) k := by
  pointwise [k0_pay15]
  rw [pay51_real H, pay52_real H]
  rfl

theorem lo_real (H : Reads P x0 x1 x2 x3 x4 x5 x6) (n : Fin 4096) (k : Fin 32) :
    extractStridedSlice S4096x32 ![0, 0] (k0_pay15 (k0_pay51 x0 x1 x2 x3 x4 x5 x6) (k0_pay52 x0 x1 x2 x3 x4 x5 x6))
      slices_S8192x32_o0_0_S4096x32 (ix2 n k) = P.smE 0 n k := by
  have h := assign_real H (row 0 n) k
  rw [bOf_row, nOf_row] at h
  rw [← h]
  pointwise
  congr 2
  apply Fin.ext; simp [row]

theorem hi_real (H : Reads P x0 x1 x2 x3 x4 x5 x6) (n : Fin 4096) (k : Fin 32) :
    k0_pay53 x0 x1 x2 x3 x4 x5 x6 (ix2 n k) = P.smE 1 n k := by
  have h := assign_real H (row 1 n) k
  rw [bOf_row, nOf_row] at h
  rw [← h]
  pointwise [k0_pay53, k0_pay18]
  congr 2

theorem zlo_real (H : Reads P x0 x1 x2 x3 x4 x5 x6) (n : Fin 4096) (c : Fin 96) :
    extractStridedSlice S4096x96 ![0, 0] (k0_pay49 x0 x1 x2 x3 x4 x5 x6)
      slices_S8192x96_o0_0_S4096x96 (ix2 n c) = P.zE 0 n c := by
  have h := pay49_real H (row 0 n) c
  rw [bOf_row, nOf_row] at h
  rw [← h]
  pointwise
  congr 2
  apply Fin.ext; simp [row]

theorem zhi_real (H : Reads P x0 x1 x2 x3 x4 x5 x6) (n : Fin 4096) (c : Fin 96) :
    k0_pay54 x0 x1 x2 x3 x4 x5 x6 (ix2 n c) = P.zE 1 n c := by
  have h := pay49_real H (row 1 n) c
  rw [bOf_row, nOf_row] at h
  rw [← h]
  pointwise [k0_pay54, k0_pay19]
  congr 2

theorem dlo_real (H : Reads P x0 x1 x2 x3 x4 x5 x6) (k : Fin 32) :
    matmul dot_S4096x32_S4096x1_S32x1_0_0_1_1_n_n none
        (extractStridedSlice S4096x32 ![0, 0] (k0_pay15 (k0_pay51 x0 x1 x2 x3 x4 x5 x6) (k0_pay52 x0 x1 x2 x3 x4 x5 x6))
          slices_S8192x32_o0_0_S4096x32) (k0_pay16 (F := Ideal))
        (constant S32x1 .f32 0x00000000#32) (ix2 k 0) = ∑ n, P.smE 0 n k := by
  have h := fun n => lo_real H n k
  generalize extractStridedSlice S4096x32 ![0, 0] (k0_pay15 (k0_pay51 x0 x1 x2 x3 x4 x5 x6) (k0_pay52 x0 x1 x2 x3 x4 x5 x6))
          slices_S8192x32_o0_0_S4096x32 = a at h ⊢
  pointwise [k0_pay16]
  simp only [h]

theorem dhi_real (H : Reads P x0 x1 x2 x3 x4 x5 x6) (k : Fin 32) :
    k0_pay55 x0 x1 x2 x3 x4 x5 x6 (ix2 k 0) = ∑ n, P.smE 1 n k := by
  have h := fun n => hi_real H n k
  unfold k0_pay53 at h
  pointwise [k0_pay55, k0_pay20, k0_pay16]
  simp only [h]

theorem anc_real (H : Reads P x0 x1 x2 x3 x4 x5 x6) (k : Fin 32) (c : Fin 96) :
    View.ld x5 r0_8 (ix2 k c) = P.an k c := by
  rw [← H.ha]
  pointwise

/-- The nodes of the first batch. -/
theorem feat0_real (H : Reads P x0 x1 x2 x3 x4 x5 x6) (k : Fin 32) (c : Fin 96) :
    k0_pay17 (k0_pay49 x0 x1 x2 x3 x4 x5 x6) (k0_pay50 x0 x1 x2 x3 x4 x5 x6) (View.ld x5 r0_8)
      (k0_pay51 x0 x1 x2 x3 x4 x5 x6) (k0_pay52 x0 x1 x2 x3 x4 x5 x6) (ix2 k c) = ((P.feat 0 k c : ℝ) : EReal) := by
  rw [pay17_eq]
  exact nodes_real (pay50_real H) (anc_real H) (lo_real H) (zlo_real H) (dlo_real H) k c

/-- The nodes of the second batch. -/
theorem feat1_real (H : Reads P x0 x1 x2 x3 x4 x5 x6) (k : Fin 32) (c : Fin 96) :
    k0_pay21 (k0_pay50 x0 x1 x2 x3 x4 x5 x6) (View.ld x5 r0_8) (k0_pay53 x0 x1 x2 x3 x4 x5 x6)
      (k0_pay54 x0 x1 x2 x3 x4 x5 x6) (k0_pay55 x0 x1 x2 x3 x4 x5 x6) (ix2 k c) = ((P.feat 1 k c : ℝ) : EReal) := by
  rw [pay21_eq]
  exact nodes_real (pay50_real H) (anc_real H) (hi_real H) (zhi_real H) (dhi_real H) k c

/-- The table of all nodes, as the distances read it. -/
theorem table_real (H : Reads P x0 x1 x2 x3 x4 x5 x6) (j : Fin 64) (c : Fin 96) :
    k0_pay22 (k0_pay50 x0 x1 x2 x3 x4 x5 x6) (View.ld x5 r0_8) (k0_pay17 (k0_pay49 x0 x1 x2 x3 x4 x5 x6) (k0_pay50 x0 x1 x2 x3 x4 x5 x6) (View.ld x5 r0_8) (k0_pay51 x0 x1 x2 x3 x4 x5 x6) (k0_pay52 x0 x1 x2 x3 x4 x5 x6)) (k0_pay53 x0 x1 x2 x3 x4 x5 x6) (k0_pay54 x0 x1 x2 x3 x4 x5 x6) (k0_pay55 x0 x1 x2 x3 x4 x5 x6) (ix2 j c)
      = ((P.feat (bNode j) (kNode j) c : ℝ) : EReal) := by
  have h0 := feat0_real H
  have h1 := feat1_real H
  generalize k0_pay17 (k0_pay49 x0 x1 x2 x3 x4 x5 x6) (k0_pay50 x0 x1 x2 x3 x4 x5 x6) (View.ld x5 r0_8)
      (k0_pay51 x0 x1 x2 x3 x4 x5 x6) (k0_pay52 x0 x1 x2 x3 x4 x5 x6) = u at h0 ⊢
  pointwise [k0_pay22]
  by_cases hj : j.val < 32
  · have hb : bNode j = 0 := by apply Fin.ext; simp only [bNode]; show j.val / 32 = 0; omega
    have hn : kNode j = ⟨j.val, hj⟩ := by apply Fin.ext; simp only [kNode]; omega
    rw [dif_pos hj, hb, hn, h0]
  · have hb : bNode j = 1 := by apply Fin.ext; simp only [bNode]; show j.val / 32 = 1; omega
    have hn : kNode j = ⟨j.val - 32, by omega⟩ := by apply Fin.ext; simp only [kNode]; omega
    rw [dif_neg hj, hb, hn, ← h1]

/-- The table of all nodes, as the first kernel leaves it. -/
theorem out0_9_real (H : Reads P x0 x1 x2 x3 x4 x5 x6) (j : Fin 64) (c : Fin 96) :
    out0_9 x0 x1 x2 x3 x4 x5 x6 (ix2 j c) = ((P.feat (bNode j) (kNode j) c : ℝ) : EReal) := by
  have hf0 := feat0_real H
  have hf1 := feat1_real H
  unfold out0_9
  generalize k0_pay17 (k0_pay49 x0 x1 x2 x3 x4 x5 x6) (k0_pay50 x0 x1 x2 x3 x4 x5 x6) (View.ld x5 r0_8)
      (k0_pay51 x0 x1 x2 x3 x4 x5 x6) (k0_pay52 x0 x1 x2 x3 x4 x5 x6) = u0 at hf0 ⊢
  generalize k0_pay21 (k0_pay50 x0 x1 x2 x3 x4 x5 x6) (View.ld x5 r0_8) (k0_pay53 x0 x1 x2 x3 x4 x5 x6)
      (k0_pay54 x0 x1 x2 x3 x4 x5 x6) (k0_pay55 x0 x1 x2 x3 x4 x5 x6) = u1 at hf1 ⊢
  canon_tiles x h
  · replace h0 : j.val = 32 + (x 0).val := h0
    replace h1 : c.val = (x 1).val := h1
    rw [eq_ix2 x]
    refine (hf1 _ _).trans ?_
    congr 2 <;> apply Fin.ext
    · show 1 = j.val / 32; omega
    · show (x 0).val = j.val % 32; omega
    · exact h1.symm
  · replace h0 : j.val = (x 0).val := h0
    replace h1 : c.val = (x 1).val := h1
    rw [eq_ix2 x]
    refine (hf0 _ _).trans ?_
    congr 2 <;> apply Fin.ext
    · show 0 = j.val / 32; omega
    · show (x 0).val = j.val % 32; omega
    · exact h1.symm

/-- The image by rows, as the first kernel leaves it. -/
theorem out0_8_real (H : Reads P x0 x1 x2 x3 x4 x5 x6) (r : Fin 8192) (c : Fin 96) :
    out0_8 x0 x1 x2 x3 x4 x5 x6 (ix2 r c) = ((P.x (bOf r) (nOf r) c : ℝ) : EReal) := by
  unfold out0_8
  canon_tiles x h
  · replace h0 : r.val = 4096 + (x 0).val := h0
    replace h1 : c.val = (x 1).val := h1
    rw [eq_ix2 x]
    pointwise [k0_pay6, k0_pay5]
    refine (H.hx _ _ _).trans ?_
    congr 2 <;> apply Fin.ext
    · show 1 = r.val / 4096; omega
    · show (x 0).val = r.val % 4096; omega
    · exact h1.symm
  · replace h0 : r.val = (x 0).val := h0
    replace h1 : c.val = (x 1).val := h1
    rw [eq_ix2 x]
    pointwise [k0_pay4, k0_pay3]
    refine (H.hx _ _ _).trans ?_
    congr 2 <;> apply Fin.ext
    · show 0 = r.val / 4096; omega
    · show (x 0).val = r.val % 4096; omega
    · exact h1.symm

/-- The squared distances of all rows from all nodes. -/
theorem pay58_real (H : Reads P x0 x1 x2 x3 x4 x5 x6) (r : Fin 8192) (j : Fin 64) :
    k0_pay58 x0 x1 x2 x3 x4 x5 x6 (ix2 r j)
      = ((∑ c, (P.x (bOf r) (nOf r) c - P.feat (bNode j) (kNode j) c) * (P.x (bOf r) (nOf r) c - P.feat (bNode j) (kNode j) c)
          : ℝ) : EReal) := by
  have hf := table_real H
  unfold k0_pay58
  generalize k0_pay22 (k0_pay50 x0 x1 x2 x3 x4 x5 x6) (View.ld x5 r0_8) (k0_pay17 (k0_pay49 x0 x1 x2 x3 x4 x5 x6) (k0_pay50 x0 x1 x2 x3 x4 x5 x6) (View.ld x5 r0_8) (k0_pay51 x0 x1 x2 x3 x4 x5 x6) (k0_pay52 x0 x1 x2 x3 x4 x5 x6)) (k0_pay53 x0 x1 x2 x3 x4 x5 x6) (k0_pay54 x0 x1 x2 x3 x4 x5 x6) (k0_pay55 x0 x1 x2 x3 x4 x5 x6) = f at hf ⊢
  have hx : ∀ c, (if h : r.val < 4096 then x0 (ix3 0 c ⟨r.val, h⟩) else x0 (ix3 1 c ⟨r.val - 4096, by omega⟩))
      = ((P.x (bOf r) (nOf r) c : ℝ) : EReal) := by
    intro c
    by_cases hr : r.val < 4096
    · have hb : bOf r = 0 := by apply Fin.ext; simp only [bOf]; show r.val / 4096 = 0; omega
      have hn : nOf r = ⟨r.val, hr⟩ := by apply Fin.ext; simp only [nOf]; omega
      rw [dif_pos hr, hb, hn, H.hx]
    · have hb : bOf r = 1 := by apply Fin.ext; simp only [bOf]; show r.val / 4096 = 1; omega
      have hn : nOf r = ⟨r.val - 4096, by omega⟩ := by apply Fin.ext; simp only [nOf]; omega
      rw [dif_neg hr, hb, hn, H.hx]
  pointwise [k0_pay24, k0_pay12, k0_pay23]
  simp only [hx, hf, lit_two, ← EReal.coe_mul, sum_real, ← EReal.coe_sub, ← EReal.coe_add, P.d2_expand]

end GraphBlock
-- ==== Proof.Pick.lean ====
/- The five nearest of 32, as a stable sort gives them and as repeated search for the first least one gives them. -/
module

public import proofs.«01_k».proof.Proof.Rows
public import Idealize.ShloMosaic.Lib.SortFacts
public import Idealize.ShloMosaic.Lib.SortNet.Extract

@[expose] public section

noncomputable section

namespace GraphBlock

open Idealize.ShloMosaic

/-- Two orders that agree on every pair in the list's own order, later one first, sort the list alike. -/
theorem stableSort_congr_later {ι : Type} (R R' : ι → ι → Bool) (l : List ι) (h : l.Pairwise fun a b => R b a = R' b a) :
    stableSort R l = stableSort R' l := by
  induction l with
  | nil => rfl
  | cons a l ih =>
    obtain ⟨ha, hl⟩ := List.pairwise_cons.mp h
    show insertBefore R a (stableSort R l) = insertBefore R' a (stableSort R' l)
    rw [ih hl]
    exact insertBefore_congr R R' a _ fun b hb => ha b ((perm_stableSort R' l).mem_iff.mp hb)

/-- A stable sort by the number alone breaks ties by position. -/
theorem sortedFrom_key {m : Nat} (d : Fin m → ℝ) (B : Fin m → Fin m → Bool) (hB : ∀ k k', B k k' = decide (d k < d k')) :
    sortedFrom B = sortedFrom (nearer d) := by
  have h : sortPositions m B = sortPositions m (nearer d) := by
    refine stableSort_congr_later _ _ _ ((List.pairwise_lt_finRange m).imp fun {a b} hab => ?_)
    rw [hB, nearer, decide_eq_false (not_lt.mpr (le_of_lt hab)), Bool.and_false, Bool.or_false]
  funext k
  unfold sortedFrom
  rw [List.get_of_eq h]
  rfl

theorem nearer_iff {m : Nat} (d : Fin m → ℝ) (k k' : Fin m) :
    nearer d k k' = true ↔ d k < d k' ∨ (d k = d k' ∧ k < k') := by
  simp [nearer]

theorem nearer_false {m : Nat} (d : Fin m → ℝ) (k k' : Fin m) :
    nearer d k k' = false ↔ d k' < d k ∨ (d k = d k' ∧ k' ≤ k) := by
  rw [← Bool.not_eq_true, nearer_iff]
  constructor
  · intro h
    rcases lt_trichotomy (d k) (d k') with h1 | h1 | h1
    · exact absurd (Or.inl h1) h
    · exact Or.inr ⟨h1, not_lt.mp fun h2 => h (Or.inr ⟨h1, h2⟩)⟩
    · exact Or.inl h1
  · rintro (h | ⟨h, h'⟩) (h1 | ⟨h1, h2⟩)
    · exact absurd h (not_lt.mpr h1.le)
    · exact absurd h1 h.ne'
    · exact absurd h h1.ne
    · exact absurd h2 (not_lt.mpr h')

theorem pick_injective (d : Fin 32 → ℝ) : Function.Injective (pick d) := fun s t h =>
  Fin.castLE_injective _ (sortedFrom_injective (nearer d) h)

/-- A node not among the first picks is the next pick, or comes after it. -/
theorem pick_first (d : Fin 32 → ℝ) (t : Fin 5) (k : Fin 32) (hk : ∀ s : Fin 5, s.val < t.val → pick d s ≠ k) :
    d (pick d t) < d k ∨ (d (pick d t) = d k ∧ pick d t ≤ k) := by
  obtain ⟨i, rfl⟩ := sortedFrom_surjective (nearer d) k
  have hti : t.val ≤ i.val := by
    by_contra hlt
    have hi : i.val < t.val := by omega
    exact hk ⟨i.val, by omega⟩ hi rfl
  rcases Nat.lt_or_eq_of_le hti with h | h
  · have h' := sortedFrom_noInversion (nearer d) (nearer d)
      (fun a b hab => by rw [nearer_iff] at hab; rw [nearer_false]; rcases hab with h1 | ⟨h1, h2⟩
                         · exact Or.inl h1
                         · exact Or.inr ⟨h1.symm, h2.le⟩)
      (fun _ _ h => h)
      (fun a b c hab hbc => by
        rw [nearer_false] at hab hbc ⊢
        rcases hab with h1 | ⟨h1, h2⟩ <;> rcases hbc with h3 | ⟨h3, h4⟩
        · exact Or.inl (h3.trans h1)
        · exact Or.inl (h3 ▸ h1)
        · exact Or.inl (h1 ▸ h3)
        · exact Or.inr ⟨h1.trans h3, h4.trans h2⟩)
      (t.castLE (by decide)) i h
    rw [nearer_false] at h'
    rcases h' with h1 | ⟨h1, h2⟩
    · exact Or.inl h1
    · exact Or.inr ⟨h1.symm, h2⟩
  · have : i = t.castLE (by decide) := Fin.ext h.symm
    rw [this]
    exact Or.inr ⟨rfl, le_refl _⟩

/-- What a row of distances holds after `t` rounds: the nodes of the own batch not yet taken, and infinity elsewhere. -/
def left (d : Fin 32 → ℝ) (b : Fin 2) (t : Nat) (j : Fin 64) : EReal :=
  open Classical in if bNode j = b ∧ ∀ s : Fin 5, s.val < t → pick d s ≠ kNode j then ((d (kNode j) : ℝ) : EReal) else ⊤

theorem left_zero (d : Fin 32 → ℝ) (b : Fin 2) (j : Fin 64) :
    left d b 0 j = if bNode j = b then ((d (kNode j) : ℝ) : EReal) else ⊤ := by
  unfold left
  by_cases h : bNode j = b
  · rw [if_pos h, if_pos ⟨h, fun s hs => absurd hs (Nat.not_lt_zero _)⟩]
  · rw [if_neg h, if_neg fun h' => h h'.1]

theorem left_pick (d : Fin 32 → ℝ) (b : Fin 2) (t : Fin 5) : left d b t.val (node b (pick d t)) = ((d (pick d t) : ℝ) : EReal) := by
  unfold left
  rw [bNode_node, kNode_node]
  exact if_pos ⟨rfl, fun s hs h => absurd (congrArg Fin.val (pick_injective d h)) (Nat.ne_of_lt hs)⟩

/-- The next pick is the first of the least entries. -/
theorem left_least (d : Fin 32 → ℝ) (b : Fin 2) (t : Fin 5) (j : Fin 64) :
    left d b t.val (node b (pick d t)) ≤ left d b t.val j
      ∧ (left d b t.val j = left d b t.val (node b (pick d t)) → (node b (pick d t)).val ≤ j.val) := by
  rw [left_pick]
  unfold left
  by_cases h : bNode j = b ∧ ∀ s : Fin 5, s.val < t.val → pick d s ≠ kNode j
  · rw [if_pos h]
    have hj : j.val = b.val * 32 + (kNode j).val := by
      have := congrArg Fin.val (node_b_k j)
      rw [h.1] at this
      exact this.symm
    rcases pick_first d t (kNode j) h.2 with h1 | ⟨h1, h2⟩
    · refine ⟨EReal.coe_le_coe_iff.mpr h1.le, fun h3 => ?_⟩
      exact absurd (EReal.coe_eq_coe_iff.mp h3) h1.ne'
    · refine ⟨EReal.coe_le_coe_iff.mpr h1.le, fun _ => ?_⟩
      have h2' : (pick d t).val ≤ (kNode j).val := h2
      show b.val * 32 + (pick d t).val ≤ j.val
      omega
  · rw [if_neg h]
    exact ⟨le_top, fun h3 => absurd h3.symm (EReal.coe_ne_top _)⟩

/-- Hiding the next pick gives the row of the next round. -/
theorem left_succ (d : Fin 32 → ℝ) (b : Fin 2) (t : Fin 5) (j : Fin 64) :
    left d b (t.val + 1) j = if j = node b (pick d t) then ⊤ else left d b t.val j := by
  by_cases hj : j = node b (pick d t)
  · rw [if_pos hj, hj]
    unfold left
    rw [if_neg]
    rintro ⟨-, h⟩
    exact h t (Nat.lt_succ_self _) (kNode_node _ _).symm
  · rw [if_neg hj]
    unfold left
    congr 1
    refine propext ⟨fun h => ⟨h.1, fun s hs => h.2 s (by omega)⟩, fun h => ⟨h.1, fun s hs => ?_⟩⟩
    rcases Nat.lt_or_eq_of_le (Nat.lt_succ_iff.mp hs) with h1 | h1
    · exact h.2 s h1
    · intro h2
      apply hj
      have : s = t := Fin.ext h1
      rw [← node_b_k j, h.1, ← h2, this]

/-- A lower bound of words, by their signed values, bounds the fold of the smaller one, which is below each of them. -/
theorem fold_minsi_bounds {ι : Type} (s : Finset ι) (f : ι → BitVec 32) (i0 : BitVec 32) :
    (∀ x ∈ s, (s.fold IntOp.minsi i0 f).toInt ≤ (f x).toInt)
      ∧ ∀ m : Int, m ≤ i0.toInt → (∀ x ∈ s, m ≤ (f x).toInt) → m ≤ (s.fold IntOp.minsi i0 f).toInt := by
  classical
  induction s using Finset.induction_on with
  | empty => simp
  | insert a s ha ih =>
    rw [Finset.fold_insert ha, SortNet.toInt_minsi]
    refine ⟨fun x hx => ?_, fun m h0 hm => le_min (hm a (Finset.mem_insert_self _ _))
      (ih.2 m h0 fun x hx => hm x (Finset.mem_insert_of_mem hx))⟩
    rcases Finset.mem_insert.mp hx with rfl | hx
    · exact min_le_left _ _
    · exact (min_le_right _ _).trans (ih.1 x hx)

theorem toInt_small {n : Nat} (h : n ≤ 64) : (BitVec.ofNat 32 n).toInt = (n : Int) := by
  have : (BitVec.ofNat 32 n).toNat = n := by rw [BitVec.toNat_ofNat]; omega
  rw [BitVec.toInt_eq_toNat_of_lt (by omega), this]

/-- The search for the first least entry finds it. -/
theorem fold_first (e : Fin 64 → EReal) (m : Fin 64) (h1 : ∀ j, e m ≤ e j) (h2 : ∀ j, e j = e m → m.val ≤ j.val) :
    Finset.fold IntOp.minsi 2147483647#32
      (fun x : Fin 64 => if e x = Finset.fold min ⊤ e Finset.univ then BitVec.ofNat 32 x.val else 64#32) Finset.univ
      = BitVec.ofNat 32 m.val := by
  have hm : Finset.fold min ⊤ e Finset.univ = e m := by
    rw [fold_min_eq_inf]
    exact le_antisymm (Finset.inf_le (Finset.mem_univ m)) (Finset.le_inf fun j _ => h1 j)
  rw [hm]
  have hb := fold_minsi_bounds Finset.univ
    (fun x : Fin 64 => if e x = e m then BitVec.ofNat 32 x.val else 64#32) 2147483647#32
  apply BitVec.eq_of_toInt_eq
  rw [toInt_small (by omega)]
  refine le_antisymm ?_ (hb.2 _ ?_ fun x _ => ?_)
  · have := hb.1 m (Finset.mem_univ m)
    rwa [if_pos rfl, toInt_small (by omega)] at this
  · have : (2147483647#32 : BitVec 32).toInt = 2147483647 := by decide
    omega
  · split
    · next h => rw [toInt_small (by omega)]; exact_mod_cast h2 x h
    · have : (64#32 : BitVec 32).toInt = 64 := by decide
      omega

end GraphBlock
-- ==== Proof.Rounds.lean ====
/- The first kernel's five rounds: each takes the first of the least distances of a row and then hides it. -/
module

public import proofs.«01_k».proof.Proof.Nodes
public import proofs.«01_k».proof.Proof.Pick

@[expose] public section

set_option maxRecDepth 16384

noncomputable section

namespace GraphBlock

open Idealize.ShloMosaic Cert.KernelIdeal Cert.KernelIdeal.Gen

/-- The numbers of the columns. -/
def lanes : IVec S8192x64 32 := iota .tc S8192x64 32 [1] iota_S8192x64_d1_w32

/-- Of each row the first column that holds its least value. -/
def firstLeast (e : FVec Ideal S8192x64 .f32) : IVec S8192x1 32 :=
  shapeCast S8192x1 (multiReductionI .minsi [1] S8192 (select (cmpf .oeq e (broadcastTo S8192x64 (shapeCast S8192x1
    (multiReduction .minimumf [1] S8192 e 0x7F800000#32 reduces_S8192x64_S8192 (.inl rfl) rfl) shapeCasts_S8192_S8192x1)
    broadcasts_S8192x1_S8192x64)) lanes (broadcast S8192x64 64#32)) 2147483647#32 reduces_S8192x64_S8192 rfl)
    shapeCasts_S8192_S8192x1

/-- The rows with that column hidden. -/
def hideLeast (e : FVec Ideal S8192x64 .f32) : FVec Ideal S8192x64 .f32 :=
  select (cmpi .eq lanes (broadcastTo S8192x64 (firstLeast e) broadcasts_S8192x1_S8192x64))
    (broadcast S8192x64 (Scalar.ofBits .f32 0x7F800000#32)) e

/-- The search, on a row that holds what `t` rounds leave. -/
theorem firstLeast_left {e : FVec Ideal S8192x64 .f32} {d : Fin 32 → ℝ} {b : Fin 2} {t : Fin 5} {r : Fin 8192}
    (he : ∀ j, e (ix2 r j) = left d b t.val j) :
    firstLeast e (ix2 r 0) = BitVec.ofNat 32 (node b (pick d t)).val := by
  pointwise [firstLeast, lanes]
  simp only [he, lit_top]
  exact fold_first (left d b t.val) _ (fun j => (left_least d b t j).1) fun j => (left_least d b t j).2

/-- The hiding, on a row that holds what `t` rounds leave. -/
theorem hideLeast_left {e : FVec Ideal S8192x64 .f32} {d : Fin 32 → ℝ} {b : Fin 2} {t : Fin 5} {r : Fin 8192}
    (he : ∀ j, e (ix2 r j) = left d b t.val j) (j : Fin 64) :
    hideLeast e (ix2 r j) = left d b (t.val + 1) j := by
  have h := firstLeast_left he
  pointwise [hideLeast, lanes]
  rw [h, he, lit_top, left_succ]
  by_cases hj : j = node b (pick d t)
  · rw [if_pos hj, hj]
    simp [Scalar.select, IntOp.cmpi]
  · rw [if_neg hj]
    have hne : BitVec.ofNat 32 j.val ≠ BitVec.ofNat 32 (node b (pick d t)).val := by
      intro h'
      apply hj
      apply Fin.ext
      have h2 := congrArg BitVec.toNat h'
      simp only [BitVec.toNat_ofNat] at h2
      omega
    simp [Scalar.select, IntOp.cmpi, bne, beq_eq_false_iff_ne.mpr hne]

/-- The quotient of a column's number by 32, as the kernel writes a quotient rounded down. -/
theorem col_quot (j : Fin 64) : Scalar.select
          (IntOp.andi
            (IntOp.cmpi CmpIPredicate.ne
              (IntOp.subi (BitVec.setWidth 32 (IntOp.cmpi CmpIPredicate.sgt (BitVec.ofNat 32 j.val) 0#32))
                (BitVec.setWidth 32 (IntOp.cmpi CmpIPredicate.slt (BitVec.ofNat 32 j.val) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 j.val) 32#32) 0#32))
          (IntOp.subi (IntOp.divsi ArithUnit.vector (BitVec.ofNat 32 j.val) 32#32) 1#32)
          (IntOp.divsi ArithUnit.vector (BitVec.ofNat 32 j.val) 32#32) = BitVec.ofNat 32 (bNode j).val := by
  revert j
  decide +kernel

/-- The quotient of a row's number by 4096, as the kernel writes a quotient rounded down. -/
theorem row_quot (r : Fin 8192) : Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 4096#32 0#32))
                (Scalar.extui (Scalar.cmpi CmpIPredicate.slt 4096#32 0#32))))
            (IntOp.cmpi CmpIPredicate.ne (IntOp.remsi ArithUnit.vector (BitVec.ofNat 32 r.val) 4096#32) 0#32))
          (IntOp.subi (IntOp.divsi ArithUnit.vector (BitVec.ofNat 32 r.val) 4096#32) 1#32)
          (IntOp.divsi ArithUnit.vector (BitVec.ofNat 32 r.val) 4096#32) = BitVec.ofNat 32 (bOf r).val := by
  revert r
  decide +kernel

variable {P : In} {x0 : Vec Ideal S2x96x4096 .f32} {x1 : Vec Ideal S2x1x4096 .f32} {x2 : Vec Ideal S96x96 .f32}
    {x3 : Vec Ideal S1x96 .f32} {x4 : Vec Ideal S1x96 .f32} {x5 : Vec Ideal S32x96 .f32} {x6 : Vec Ideal S32x96 .f32}

/-- The distances with the other batch's nodes hidden. -/
def masked (x0 : Vec Ideal S2x96x4096 .f32) (x1 : Vec Ideal S2x1x4096 .f32) (x2 : Vec Ideal S96x96 .f32)
    (x3 : Vec Ideal S1x96 .f32) (x4 : Vec Ideal S1x96 .f32) (x5 : Vec Ideal S32x96 .f32) (x6 : Vec Ideal S32x96 .f32) :
    FVec Ideal S8192x64 .f32 :=
  k0_pay28 (k0_pay58 x0 x1 x2 x3 x4 x5 x6) (iota .tc S8192x64 32 [0] iota_S8192x64_d0_w32) k0_pay25 4096#32 k0_pay26
    k0_pay27 0#32

/-- The hidden distances are what no round leaves. -/
theorem masked_left (H : Reads P x0 x1 x2 x3 x4 x5 x6) (r : Fin 8192) (j : Fin 64) :
    masked x0 x1 x2 x3 x4 x5 x6 (ix2 r j) = left (P.d2 (bOf r) (nOf r)) (bOf r) 0 j := by
  have h := pay58_real H r j
  unfold masked
  generalize k0_pay58 x0 x1 x2 x3 x4 x5 x6 = v at h ⊢
  pointwise [k0_pay28, k0_pay25, k0_pay26, k0_pay27]
  rw [col_quot, row_quot, lit_top, left_zero, h]
  by_cases hj : bNode j = bOf r
  · rw [if_pos hj, hj]
    simp [Scalar.select, IntOp.cmpi, In.d2]
  · rw [if_neg hj]
    have hne : BitVec.ofNat 32 (bNode j).val ≠ BitVec.ofNat 32 (bOf r).val := by
      intro h'
      apply hj
      apply Fin.ext
      have h2 := congrArg BitVec.toNat h'
      simp only [BitVec.toNat_ofNat] at h2
      omega
    simp [Scalar.select, IntOp.cmpi, bne, beq_eq_false_iff_ne.mpr hne]

/-- The distances after `t` rounds. -/
def after (x0 : Vec Ideal S2x96x4096 .f32) (x1 : Vec Ideal S2x1x4096 .f32) (x2 : Vec Ideal S96x96 .f32)
    (x3 : Vec Ideal S1x96 .f32) (x4 : Vec Ideal S1x96 .f32) (x5 : Vec Ideal S32x96 .f32) (x6 : Vec Ideal S32x96 .f32) :
    Nat → FVec Ideal S8192x64 .f32
  | 0 => masked x0 x1 x2 x3 x4 x5 x6
  | t + 1 => hideLeast (after x0 x1 x2 x3 x4 x5 x6 t)

/-- After `t` rounds the distances are those of the nodes not yet taken. -/
theorem after_left (H : Reads P x0 x1 x2 x3 x4 x5 x6) (r : Fin 8192) :
    ∀ t : Nat, t ≤ 5 → ∀ j : Fin 64, after x0 x1 x2 x3 x4 x5 x6 t (ix2 r j) = left (P.d2 (bOf r) (nOf r)) (bOf r) t j
  | 0, _ => masked_left H r
  | t + 1, ht => hideLeast_left (t := ⟨t, ht⟩) (after_left H r t (Nat.le_of_succ_le ht))

/-- The search of round `t` finds the pick of rank `t`. -/
theorem found (H : Reads P x0 x1 x2 x3 x4 x5 x6) (r : Fin 8192) (t : Fin 5) :
    firstLeast (after x0 x1 x2 x3 x4 x5 x6 t.val) (ix2 r 0)
      = BitVec.ofNat 32 (node (bOf r) (P.sel (bOf r) (nOf r) t)).val :=
  firstLeast_left (after_left H r t.val t.isLt.le)

/-- The found columns of the first batch. -/
def lowHalf (e : FVec Ideal S8192x64 .f32) : IVec S1x1x4096x1 32 :=
  shapeCast S1x1x4096x1 (extractStridedSlice S4096x1 ![0, 0] (firstLeast e) slices_S8192x1_o0_0_S4096x1)
    shapeCasts_S4096x1_S1x1x4096x1

/-- The found columns of the second batch. -/
def highHalf (e : FVec Ideal S8192x64 .f32) : IVec S1x1x4096x1 32 :=
  shapeCast S1x1x4096x1 (extractStridedSlice S4096x1 ![4096, 0] (firstLeast e) slices_S8192x1_o4096_0_S4096x1)
    shapeCasts_S4096x1_S1x1x4096x1

/-- The array of picks is the two halves of the five rounds. -/
theorem out0_7_eq (x0 : Vec Ideal S2x96x4096 .f32) (x1 : Vec Ideal S2x1x4096 .f32) (x2 : Vec Ideal S96x96 .f32)
    (x3 : Vec Ideal S1x96 .f32) (x4 : Vec Ideal S1x96 .f32) (x5 : Vec Ideal S32x96 .f32) (x6 : Vec Ideal S32x96 .f32) :
    out0_7 x0 x1 x2 x3 x4 x5 x6 = View.canon
      [⟨r0_20, highHalf (after x0 x1 x2 x3 x4 x5 x6 4)⟩, ⟨r0_19, lowHalf (after x0 x1 x2 x3 x4 x5 x6 4)⟩,
        ⟨r0_18, highHalf (after x0 x1 x2 x3 x4 x5 x6 3)⟩, ⟨r0_17, lowHalf (after x0 x1 x2 x3 x4 x5 x6 3)⟩,
        ⟨r0_16, highHalf (after x0 x1 x2 x3 x4 x5 x6 2)⟩, ⟨r0_15, lowHalf (after x0 x1 x2 x3 x4 x5 x6 2)⟩,
        ⟨r0_14, highHalf (after x0 x1 x2 x3 x4 x5 x6 1)⟩, ⟨r0_13, lowHalf (after x0 x1 x2 x3 x4 x5 x6 1)⟩,
        ⟨r0_12, highHalf (after x0 x1 x2 x3 x4 x5 x6 0)⟩, ⟨r0_11, lowHalf (after x0 x1 x2 x3 x4 x5 x6 0)⟩] := rfl

theorem lowHalf_real (H : Reads P x0 x1 x2 x3 x4 x5 x6) (t : Fin 5) (n : Fin 4096) :
    lowHalf (after x0 x1 x2 x3 x4 x5 x6 t.val) (ix4 0 0 n 0) = BitVec.ofNat 32 (node 0 (P.sel 0 n t)).val := by
  have h := found H (row 0 n) t
  rw [bOf_row, nOf_row] at h
  have e : row 0 n = (⟨n.val, n.isLt.trans (by decide)⟩ : Fin 8192) := Fin.ext (by simp [row])
  rw [← h, e]
  pointwise [lowHalf]

theorem highHalf_real (H : Reads P x0 x1 x2 x3 x4 x5 x6) (t : Fin 5) (n : Fin 4096) :
    highHalf (after x0 x1 x2 x3 x4 x5 x6 t.val) (ix4 0 0 n 0) = BitVec.ofNat 32 (node 1 (P.sel 1 n t)).val := by
  have h := found H (row 1 n) t
  rw [bOf_row, nOf_row] at h
  rw [← h]
  pointwise [highHalf]
  congr 2

/-- The array of picks, by batch, rank and pixel. -/
theorem out0_7_real (H : Reads P x0 x1 x2 x3 x4 x5 x6) (b : Fin 2) (t : Fin 5) (n : Fin 4096) :
    out0_7 x0 x1 x2 x3 x4 x5 x6 (ix4 b t n 0) = BitVec.ofNat 32 (node b (P.sel b n t)).val := by
  rw [out0_7_eq]
  canon_tiles x h
  all_goals obtain ⟨p, q, n', z, rfl⟩ : ∃ (p q : Fin 1) (n' : Fin 4096) (z : Fin 1), x = ix4 p q n' z :=
    ⟨x 0, x 1, x 2, x 3, eq_ix4 x⟩
  all_goals obtain rfl : p = 0 := Subsingleton.elim _ _
  all_goals obtain rfl : q = 0 := Subsingleton.elim _ _
  all_goals obtain rfl : z = 0 := Subsingleton.elim _ _
  all_goals obtain rfl : n = n' := Fin.ext h2
  · obtain rfl : b = 1 := Fin.ext h0
    obtain rfl : t = 4 := Fin.ext h1
    exact highHalf_real H 4 n
  · obtain rfl : b = 0 := Fin.ext h0
    obtain rfl : t = 4 := Fin.ext h1
    exact lowHalf_real H 4 n
  · obtain rfl : b = 1 := Fin.ext h0
    obtain rfl : t = 3 := Fin.ext h1
    exact highHalf_real H 3 n
  · obtain rfl : b = 0 := Fin.ext h0
    obtain rfl : t = 3 := Fin.ext h1
    exact lowHalf_real H 3 n
  · obtain rfl : b = 1 := Fin.ext h0
    obtain rfl : t = 2 := Fin.ext h1
    exact highHalf_real H 2 n
  · obtain rfl : b = 0 := Fin.ext h0
    obtain rfl : t = 2 := Fin.ext h1
    exact lowHalf_real H 2 n
  · obtain rfl : b = 1 := Fin.ext h0
    obtain rfl : t = 1 := Fin.ext h1
    exact highHalf_real H 1 n
  · obtain rfl : b = 0 := Fin.ext h0
    obtain rfl : t = 1 := Fin.ext h1
    exact lowHalf_real H 1 n
  · obtain rfl : b = 1 := Fin.ext h0
    obtain rfl : t = 0 := Fin.ext h1
    exact highHalf_real H 0 n
  · obtain rfl : b = 0 := Fin.ext h0
    obtain rfl : t = 0 := Fin.ext h1
    exact lowHalf_real H 0 n

end GraphBlock
-- ==== Proof.Inputs.lean ====
/-
  The real numbers the two programs compute with, taken from the arguments, and the reshapes the kernel's program applies.
-/
module

public import proofs.«01_k».proof.Proof.Finite
public import proofs.«01_k».proof.Proof.KernelResult
public import proofs.«01_k».proof.Proof.SecondKernel
public import proofs.«01_k».proof.Proof.Rounds
public import Idealize.ShloMosaic.Lib.Pointwise

@[expose] public section

set_option maxRecDepth 16384

noncomputable section

namespace GraphBlock

open Idealize.ShloMosaic Cert.KernelIdeal Cert.KernelIdeal.Gen

/-- The numbers the arguments hold: the edge map and the widths through the sigmoid, the others as they stand. -/
def inOf (a0 : FVec Ideal S2x96x64x64 .f32) (a1 : FVec Ideal S2x1x64x64 .f32) (a2 : FVec Ideal S96x96 .f32)
    (a3 a4 : FVec Ideal S96 .f32) (a5 a6 : FVec Ideal S32x96 .f32) (a7 : FVec Ideal S96x192 .f32) (a8 : FVec Ideal S96 .f32) : In where
  x b n c := (a0 (ix4 b c ⟨n.val / 64, by omega⟩ ⟨n.val % 64, by omega⟩) : EReal).toReal
  s b n := (Ideal.logistic (a1 (ix4 b 0 ⟨n.val / 64, by omega⟩ ⟨n.val % 64, by omega⟩)) : EReal).toReal
  W0 o i := (a2 (ix2 o i) : EReal).toReal
  g0 o := (a3 (ix1 o) : EReal).toReal
  bo o := a4 (ix1 o)
  an k c := a5 (ix2 k c)
  sg k c := sigm (a6 (ix2 k c))
  sg_pos k c := sigm_pos _
  W1 o i := (a7 (ix2 o i) : EReal).toReal
  g1 o := (a8 (ix1 o) : EReal).toReal

/-- The image with its two spatial axes merged. -/
theorem image_at (a : FVec Ideal S2x96x64x64 .f32) (b : Fin 2) (c : Fin 96) (n : Fin 4096) :
    shapeCast S2x96x4096 a shapeCasts_S2x96x64x64_S2x96x4096 (ix3 b c n)
      = a (ix4 b c ⟨n.val / 64, by omega⟩ ⟨n.val % 64, by omega⟩) := by
  pointwise

/-- The edge map with its two spatial axes merged. -/
theorem edge_at (a : FVec Ideal S2x1x64x64 .f32) (b : Fin 2) (n : Fin 4096) :
    shapeCast S2x1x4096 a shapeCasts_S2x1x64x64_S2x1x4096 (ix3 b 0 n)
      = a (ix4 b 0 ⟨n.val / 64, by omega⟩ ⟨n.val % 64, by omega⟩) := by
  pointwise

/-- A list of channels as a one-row table. -/
theorem chan_at (a : FVec Ideal S96 .f32) (o : Fin 96) :
    broadcastInDim S1x96 ![1] bcast_S96_S1x96_1 a (ix2 0 o) = a (ix1 o) := by
  pointwise

/-- The list of the picks by rank and pixel, read again by pixel and neighbour. -/
theorem words_at (w : IVec S2x5x4096x1 32) (r : Fin 8192) (j : Fin 5) :
    shapeCast S8192x5 (shapeCast S2x4096x5 (shapeCast S2x20480 w shapeCasts_S2x5x4096x1_S2x20480)
      shapeCasts_S2x20480_S2x4096x5) shapeCasts_S2x4096x5_S8192x5 (ix2 r j)
      = w (ix4 (bOf r) ⟨((nOf r).val * 5 + j.val) / 4096, by have := (nOf r).isLt; omega⟩
          ⟨((nOf r).val * 5 + j.val) % 4096, by omega⟩ 0) := by
  pointwise
  have h1 : (⟨(r.val * 5 + j.val) / 4096 % 5, by omega⟩ : Fin 5) = ⟨((nOf r).val * 5 + j.val) / 4096, by have := (nOf r).isLt; omega⟩ :=
    Fin.ext (by change (r.val * 5 + j.val) / 4096 % 5 = (r.val % 4096 * 5 + j.val) / 4096; omega)
  have h2 : (⟨(r.val * 5 + j.val) % 4096, by omega⟩ : Fin 4096) = ⟨((nOf r).val * 5 + j.val) % 4096, by omega⟩ :=
    Fin.ext (by change (r.val * 5 + j.val) % 4096 = (r.val % 4096 * 5 + j.val) % 4096; omega)
  rw [h1, h2]
  rfl

variable {a0 : FVec Ideal S2x96x64x64 .f32} {a1 : FVec Ideal S2x1x64x64 .f32} {a2 : FVec Ideal S96x96 .f32}
    {a3 a4 : FVec Ideal S96 .f32} {a5 a6 : FVec Ideal S32x96 .f32} {a7 : FVec Ideal S96x192 .f32} {a8 : FVec Ideal S96 .f32}

/-- The first kernel's arrays hold the arguments' real numbers. -/
theorem reads_of_finite (H : FiniteArgs a0 a2 a3 a6 a7 a8) : Reads (inOf a0 a1 a2 a3 a4 a5 a6 a7 a8)
    (shapeCast S2x96x4096 a0 shapeCasts_S2x96x64x64_S2x96x4096) (shapeCast S2x1x4096 a1 shapeCasts_S2x1x64x64_S2x1x4096) a2
    (broadcastInDim S1x96 ![1] bcast_S96_S1x96_1 a3) (broadcastInDim S1x96 ![1] bcast_S96_S1x96_1 a4) a5 a6 where
  hx b c n := by rw [image_at]; exact (H.h0 _).symm
  hs b n := by rw [edge_at]; exact (logistic_is_real _).symm
  hW o i := (H.h2 _).symm
  hg o := by rw [chan_at]; exact (H.h3 _).symm
  hb o := chan_at a4 o
  ha k c := rfl
  hp k c := sigm_real (H.h6 _)

/-- The second scale is not negative. -/
theorem scale_nonneg (H : FiniteArgs a0 a2 a3 a6 a7 a8) (o : Fin 96) : 0 ≤ (inOf a0 a1 a2 a3 a4 a5 a6 a7 a8).g1 o :=
  EReal.toReal_nonneg (H.nonneg _)

variable (m : (ℓ : Loc nD τ sig) → Buf (Elt Ideal) ℓ) (c : Dev nD)

/-- The real numbers a memory's arguments hold. -/
def memIn : In := inOf (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
  (m ((c.tc : Thread nD τ).loc main_arg8))

/-- The last offset a memory's arguments hold. -/
def memOffset (o : Fin 96) : EReal := (m ((c.tc : Thread nD τ).loc main_arg9) : FVec Ideal S96 .f32) (ix1 o)

/-- The precondition's reading of a memory. -/
abbrev FiniteMem : Prop := FiniteArgs (m ((c.tc : Thread nD τ).loc main_arg0)) (m ((c.tc : Thread nD τ).loc main_arg2))
  (m ((c.tc : Thread nD τ).loc main_arg3)) (m ((c.tc : Thread nD τ).loc main_arg6)) (m ((c.tc : Thread nD τ).loc main_arg7))
  (m ((c.tc : Thread nD τ).loc main_arg8))

variable {m c}

/-- The second kernel's arrays hold the same real numbers and the picks. -/
theorem reads2_of_finite (H : FiniteMem m c) : Reads2 (memIn m c) (memOffset m c) (pixels m c) (nodes m c)
    (m ((c.tc : Thread nD τ).loc main_arg7))
    (shapeCast S8192x5 (shapeCast S2x4096x5 (shapeCast S2x20480 (words m c) shapeCasts_S2x5x4096x1_S2x20480)
      shapeCasts_S2x20480_S2x4096x5) shapeCasts_S2x4096x5_S8192x5)
    (broadcastInDim S1x96 ![1] bcast_S96_S1x96_1 (m ((c.tc : Thread nD τ).loc main_arg8)))
    (broadcastInDim S1x96 ![1] bcast_S96_S1x96_1 (m ((c.tc : Thread nD τ).loc main_arg9))) where
  hx r k := out0_8_real (reads_of_finite H) r k
  hf k o := out0_9_real (reads_of_finite H) k o
  hW o i := (H.h7 _).symm
  hi r j := by
    rw [words_at]
    exact out0_7_real (reads_of_finite H) _ _ _
  hg o := by rw [chan_at]; exact (H.h8 _).symm
  hb o := by rw [chan_at]; rfl

/-- The kernel's result, at a batch, a channel and a pixel. -/
theorem kernelResult_real (H : FiniteMem m c) (b : Fin 2) (o : Fin 96) (n : Fin 4096) :
    kernelResult m c (ix3 b o n) = (memIn m c).res (memOffset m c) b n o :=
  out1_6_real (reads2_of_finite H) (scale_nonneg H) b o n

end GraphBlock

end
-- ==== Proof.RefSoft.lean ====
/- The reference up to the soft assignments, at an index. -/
module

public import proofs.«01_k».proof.Proof.Soft
public import proofs.«01_k».proof.Proof.Gen.ReferenceIdeal.Run
public import Idealize.ShloMosaic.Lib.Pointwise
public import Idealize.ShloMosaic.Lib.Tactic.CleanTypes

@[expose] public section

set_option maxRecDepth 16384

noncomputable section

namespace GraphBlock

open Idealize.ShloMosaic Cert.ReferenceIdeal Cert.ReferenceIdeal.Value

/-- The pixel of a line and a column. -/
def px (h w : Fin 64) : Fin 4096 := ⟨h.val * 64 + w.val, by omega⟩

/-- Pixels are pairs of a line and a column. -/
def pxEquiv : Fin 64 × Fin 64 ≃ Fin 4096 where
  toFun p := px p.1 p.2
  invFun n := (⟨n.val / 64, by omega⟩, ⟨n.val % 64, by omega⟩)
  left_inv p := by
    apply Prod.ext <;> apply Fin.ext <;> simp only [px] <;> omega
  right_inv n := by
    apply Fin.ext; simp only [px]; omega

theorem px_div_mod (n : Fin 4096) : px ⟨n.val / 64, by omega⟩ ⟨n.val % 64, by omega⟩ = n := pxEquiv.right_inv n

theorem sum_px {M : Type*} [AddCommMonoid M] (f : Fin 4096 → M) : ∑ h, ∑ w, f (px h w) = ∑ n, f n := by
  rw [← Fintype.sum_prod_type' fun h w => f (px h w)]
  exact Fintype.sum_equiv pxEquiv _ _ fun _ => rfl

/-- A sum over all axes of a rank-4 array but the second. -/
theorem reduce_but_second {n0 n1 n2 n3 : Nat} (h : (⟨4, ![n0, n1, n2, n3]⟩ : Shape).ReducesTo [0, 2, 3] ⟨1, ![n1]⟩)
    (v : (⟨4, ![n0, n1, n2, n3]⟩ : Shape).Idx → EReal) (init : EReal) (o : Fin n1) :
    Ideal.hostReduceAdd h v init (ix1 o) = init + ∑ b, ∑ y, ∑ z, v (ix4 b o y z) := by
  have hf : ∀ i, h.drop i = ix1 o ↔ ∃ k : Fin n0 × Fin n2 × Fin n3, ix4 k.1 o k.2.1 k.2.2 = i := by
    intro i
    constructor
    · intro e
      refine ⟨(i 0, i 2, i 3), ?_⟩
      funext a; apply Fin.ext
      match a with
      | ⟨0, _⟩ => rfl
      | ⟨1, _⟩ => exact (congrArg Fin.val (congrFun e 0)).symm
      | ⟨2, _⟩ => rfl
      | ⟨3, _⟩ => rfl
    · rintro ⟨k, rfl⟩
      funext b
      apply Fin.ext
      match b with
      | ⟨0, _⟩ => rfl
  refine congrArg (init + ·) ?_
  refine (Finset.sum_filter_eq_sum_of_fiber _ (fun k : Fin n0 × Fin n2 × Fin n3 => ix4 k.1 o k.2.1 k.2.2)
    (fun _ _ e => Prod.ext (congrFun e 0) (Prod.ext (congrFun e 2) (congrFun e 3))) hf v).trans ?_
  simp only [Fintype.sum_prod_type]

/-- The arguments hold the real numbers of `P` and the last offset. -/
structure RefReads (P : In) (be : Fin 96 → EReal) (V : Valuation τ sig (Elt Ideal)) : Prop where
  hx : ∀ b c h w, (V (Proc.devRef .tc main_arg0) : FVec Ideal S2x96x64x64 .f32) (ix4 b c h w) = ((P.x b (px h w) c : ℝ) : EReal)
  hs : ∀ b h w, Ideal.logistic ((V (Proc.devRef .tc main_arg1) : FVec Ideal S2x1x64x64 .f32) (ix4 b 0 h w)) = ((P.s b (px h w) : ℝ) : EReal)
  hW : ∀ o i, (V (Proc.devRef .tc main_arg2) : FVec Ideal S96x96 .f32) (ix2 o i) = ((P.W0 o i : ℝ) : EReal)
  hg : ∀ o, (V (Proc.devRef .tc main_arg3) : FVec Ideal S96 .f32) (ix1 o) = ((P.g0 o : ℝ) : EReal)
  hb : ∀ o, (V (Proc.devRef .tc main_arg4) : FVec Ideal S96 .f32) (ix1 o) = P.bo o
  ha : ∀ k c, (V (Proc.devRef .tc main_arg5) : FVec Ideal S32x96 .f32) (ix2 k c) = P.an k c
  hp : ∀ k c, Ideal.logistic ((V (Proc.devRef .tc main_arg6) : FVec Ideal S32x96 .f32) (ix2 k c)) = ((P.sg k c : ℝ) : EReal)
  hW1 : ∀ o i, (V (Proc.devRef .tc main_arg7) : FVec Ideal S96x192 .f32) (ix2 o i) = ((P.W1 o i : ℝ) : EReal)
  hg1 : ∀ o, (V (Proc.devRef .tc main_arg8) : FVec Ideal S96 .f32) (ix1 o) = ((P.g1 o : ℝ) : EReal)
  hb1 : ∀ o, (V (Proc.devRef .tc main_arg9) : FVec Ideal S96 .f32) (ix1 o) = be o

variable {P : In} {be : Fin 96 → EReal} {V : Valuation τ sig (Elt Ideal)}

/-- The product of the gated image with the first weights. -/
theorem v9_real (H : RefReads P be V) (b : Fin 2) (o : Fin 96) (h w : Fin 64) :
    (res_main_v9 V : FVec Ideal S2x96x64x64 .f32) (ix4 b o h w) = ((P.h b (px h w) o : ℝ) : EReal) := by
  have hs := H.hs
  simp only [Ideal.logistic] at hs
  have hx := H.hx
  have hW := H.hW
  unfold res_main_v9
  clean_types
  generalize (V (Proc.tc.devRef main_arg0) : FVec Ideal S2x96x64x64 .f32) = w0 at *
  generalize (V (Proc.tc.devRef main_arg1) : FVec Ideal S2x1x64x64 .f32) = w1 at *
  generalize (V (Proc.tc.devRef main_arg2) : FVec Ideal S96x96 .f32) = w2 at *
  pointwise
  simp only [hs, hx, hW, ← EReal.coe_mul, sum_real]
  rfl

/-- The mean of each channel. -/
theorem v13_real (H : RefReads P be V) (o : Fin 96) :
    (res_main_v13 V : FVec Ideal S1x96x1x1 .f32) (ix4 0 o 0 0) = ((P.mu0 o : ℝ) : EReal) := by
  have h9 := v9_real H
  unfold res_main_v13
  clean_types
  generalize (res_main_v9 V : FVec Ideal S2x96x64x64 .f32) = u at *
  pointwise
  rw [reduce_but_second]
  simp only [h9, lit_8192, sum_real, zero_add]
  rw [div_real (by norm_num), In.mu0, Finset.sum_congr rfl fun b _ => sum_px fun n => P.h b n o]

theorem v15_real (H : RefReads P be V) (b : Fin 2) (o : Fin 96) (h w : Fin 64) :
    (res_main_v15 V : FVec Ideal S2x96x64x64 .f32) (ix4 b o h w) = ((P.h b (px h w) o - P.mu0 o : ℝ) : EReal) := by
  have h9 := v9_real H
  have hm := v13_real H
  unfold res_main_v15
  clean_types
  generalize (res_main_v9 V : FVec Ideal S2x96x64x64 .f32) = u at *
  generalize (res_main_v13 V : FVec Ideal S1x96x1x1 .f32) = m at *
  pointwise
  rw [h9, hm, EReal.coe_sub]

/-- The scaled distances from the anchors. -/
theorem v50_real (H : RefReads P be V) (b : Fin 2) (n : Fin 4096) (k : Fin 32) (c : Fin 96) :
    (res_main_v50 V : FVec Ideal S2x4096x32x96 .f32) (ix4 b n k c) = P.rsE b n k c := by
  have h9 := v9_real H
  have h15 := v15_real H
  have hm := v13_real H
  have hp := H.hp
  simp only [Ideal.logistic] at hp
  have hg := H.hg
  have hb := H.hb
  have ha := H.ha
  unfold res_main_v50
  clean_types
  generalize (res_main_v9 V : FVec Ideal S2x96x64x64 .f32) = u at *
  generalize (res_main_v15 V : FVec Ideal S2x96x64x64 .f32) = u' at *
  generalize (res_main_v13 V : FVec Ideal S1x96x1x1 .f32) = m at *
  generalize (V (Proc.tc.devRef main_arg3) : FVec Ideal S96 .f32) = w3 at *
  generalize (V (Proc.tc.devRef main_arg4) : FVec Ideal S96 .f32) = w4 at *
  generalize (V (Proc.tc.devRef main_arg5) : FVec Ideal S32x96 .f32) = w5 at *
  generalize (V (Proc.tc.devRef main_arg6) : FVec Ideal S32x96 .f32) = w6 at *
  pointwise
  rw [reduce_but_second]
  pointwise
  simp only [h9, h15, hm, hp, hg, hb, ha, lit_8192, lit_e5, ← EReal.coe_mul, sum_real, zero_add]
  rw [div_real (by norm_num), ← EReal.coe_add,
    Finset.sum_congr rfl fun b _ => sum_px fun n => (P.h b n c - P.mu0 c) * (P.h b n c - P.mu0 c), px_div_mod]
  change Ideal.div (max (Ideal.div _ (Ideal.sqrt ((P.va0 c + e5 : ℝ) : EReal)) * _ + _) 0 - _) _ = _
  rw [sqrt_real (P.va0_pos c).le, ← EReal.coe_sub, div_real (Real.sqrt_pos.mpr (P.va0_pos c)).ne', ← EReal.coe_mul]
  rfl

/-- The logits. -/
theorem v55_real (H : RefReads P be V) (b : Fin 2) (k : Fin 32) (n : Fin 4096) :
    (res_main_v55 V : FVec Ideal S2x32x4096 .f32) (ix3 b k n) = P.LE b n k := by
  have h := v50_real H
  unfold res_main_v55
  clean_types
  generalize (res_main_v50 V : FVec Ideal S2x4096x32x96 .f32) = u at *
  pointwise
  simp only [h, lit_neg_half, zero_add]
  exact P.LE_reference b n k

/-- Their exponentials, the largest taken off. -/
theorem v62_real (H : RefReads P be V) (b : Fin 2) (k : Fin 32) (n : Fin 4096) :
    (res_main_v62 V : FVec Ideal S2x32x4096 .f32) (ix3 b k n) = P.exE b n k := by
  have h := v55_real H
  unfold res_main_v62
  clean_types
  generalize (res_main_v55 V : FVec Ideal S2x32x4096 .f32) = u at *
  pointwise
  simp only [h, lit_bot, fold_max_eq_sup]
  rw [max_eq_right bot_le]
  rfl

/-- The soft assignments. -/
theorem v66_real (H : RefReads P be V) (b : Fin 2) (k : Fin 32) (n : Fin 4096) :
    (res_main_v66 V : FVec Ideal S2x32x4096 .f32) (ix3 b k n) = P.smE b n k := by
  have h := v62_real H
  unfold res_main_v66
  clean_types
  generalize (res_main_v62 V : FVec Ideal S2x32x4096 .f32) = u at *
  pointwise
  simp only [h, zero_add]
  rfl

end GraphBlock
-- ==== Proof.RefNodes.lean ====
/- The reference's nodes and the distances of the pixels from them, at an index. -/
module

public import proofs.«01_k».proof.Proof.RefSoft

@[expose] public section

set_option maxRecDepth 16384

noncomputable section

namespace GraphBlock

open Idealize.ShloMosaic Cert.ReferenceIdeal Cert.ReferenceIdeal.Value

variable {P : In} {be : Fin 96 → EReal} {V : Valuation τ sig (Elt Ideal)}

/-- The weighted means. -/
theorem v77_real (H : RefReads P be V) (b : Fin 2) (k : Fin 32) (c : Fin 96) :
    (res_main_v77 V : FVec Ideal S2x32x96 .f32) (ix3 b k c) = ((P.nd0 b k c : ℝ) : EReal) := by
  have h50 := v50_real H
  have h66 := v66_real H
  unfold res_main_v77
  clean_types
  generalize (res_main_v50 V : FVec Ideal S2x4096x32x96 .f32) = u at *
  generalize (res_main_v66 V : FVec Ideal S2x32x4096 .f32) = a at *
  pointwise
  simp only [h50, h66, lit_e9, zero_add]
  exact P.nd0_reference b k c

/-- The means, each divided by its norm, as one list of a batch. -/
theorem v83_real (H : RefReads P be V) (b : Fin 2) (q : Fin 3072) :
    (res_main_v83 V : FVec Ideal S2x3072 .f32) (ix2 b q)
      = ((P.nd1 b ⟨q.val / 96, by omega⟩ ⟨q.val % 96, by omega⟩ : ℝ) : EReal) := by
  have h77 := v77_real H
  unfold res_main_v83
  clean_types
  generalize (res_main_v77 V : FVec Ideal S2x32x96 .f32) = u at *
  pointwise
  simp only [h77, lit_e12, ← EReal.coe_mul, sum_real, zero_add]
  rw [sqrt_real (Finset.sum_nonneg fun _ _ => mul_self_nonneg _), max_real]
  exact div_real (P.nr0_pos b ⟨q.val / 96, by omega⟩).ne' _

/-- The list of a batch is its nodes, one after the other. -/
def listEquiv : Fin 32 × Fin 96 ≃ Fin 3072 where
  toFun p := ⟨p.1.val * 96 + p.2.val, by omega⟩
  invFun q := (⟨q.val / 96, by omega⟩, ⟨q.val % 96, by omega⟩)
  left_inv p := by
    apply Prod.ext <;> apply Fin.ext <;> show _ = _ <;> simp only <;> omega
  right_inv q := by
    apply Fin.ext; simp only; omega

theorem sum_list (f : Fin 32 → Fin 96 → ℝ) :
    ∑ q : Fin 3072, f ⟨q.val / 96, by omega⟩ ⟨q.val % 96, by omega⟩ = ∑ k, ∑ c, f k c := by
  rw [← Fintype.sum_prod_type' f]
  exact Fintype.sum_equiv listEquiv.symm _ _ fun _ => rfl

/-- The nodes, read as another list. -/
theorem v89_real (H : RefReads P be V) (b : Fin 2) (c : Fin 96) (k : Fin 32) :
    (res_main_v89 V : FVec Ideal S2x96x32 .f32) (ix3 b c k) = ((P.feat b k c : ℝ) : EReal) := by
  have h83 := v83_real H
  unfold res_main_v89
  clean_types
  generalize (res_main_v83 V : FVec Ideal S2x3072 .f32) = u at *
  pointwise
  simp only [h83, lit_e12, ← EReal.coe_mul, sum_real, zero_add]
  rw [sqrt_real (Finset.sum_nonneg fun _ _ => mul_self_nonneg _), max_real,
    sum_list fun k c => P.nd1 b k c * P.nd1 b k c]
  exact div_real (P.nr1_pos b).ne' _

/-- The image by pixels. -/
theorem v90_real (H : RefReads P be V) (b : Fin 2) (c : Fin 96) (n : Fin 4096) :
    (res_main_v90 V : FVec Ideal S2x96x4096 .f32) (ix3 b c n) = ((P.x b n c : ℝ) : EReal) := by
  have hx := H.hx
  unfold res_main_v90
  clean_types
  pointwise
  rw [hx, px_div_mod]

/-- The difference of a pixel and a node. -/
theorem v99_real (H : RefReads P be V) (b : Fin 2) (c : Fin 96) (k : Fin 32) (h w : Fin 64) :
    (res_main_v99 V : FVec Ideal S2x96x32x64x64 .f32) (ix5 b c k h w)
      = ((P.x b (px h w) c - P.feat b k c : ℝ) : EReal) := by
  have h89 := v89_real H
  have h90 := v90_real H
  unfold res_main_v99
  clean_types
  generalize (res_main_v89 V : FVec Ideal S2x96x32 .f32) = u at *
  generalize (res_main_v90 V : FVec Ideal S2x96x4096 .f32) = v at *
  pointwise
  simp only [h89, h90, ← EReal.coe_sub]
  rfl

/-- The negated distance of a pixel from a node. -/
theorem v104_real (H : RefReads P be V) (b : Fin 2) (h w : Fin 64) (k : Fin 32) :
    (res_main_v104 V : FVec Ideal S2x64x64x32 .f32) (ix4 b h w k) = ((-√(P.d2 b (px h w) k) : ℝ) : EReal) := by
  have h99 := v99_real H
  unfold res_main_v104
  clean_types
  generalize (res_main_v99 V : FVec Ideal S2x96x32x64x64 .f32) = u at *
  pointwise
  simp only [h99, ← EReal.coe_mul, sum_real, zero_add]
  rw [sqrt_real (Finset.sum_nonneg fun _ _ => mul_self_nonneg _), ← EReal.coe_neg]
  rfl

end GraphBlock
-- ==== Proof.RefPick.lean ====
/- The reference's five nearest nodes as a list of rows of the table of all nodes, at an index. -/
module

public import proofs.«01_k».proof.Proof.RefNodes
public import proofs.«01_k».proof.Proof.Pick

@[expose] public section

set_option maxRecDepth 16384

noncomputable section

namespace GraphBlock

open Idealize.ShloMosaic Cert.ReferenceIdeal Cert.ReferenceIdeal.Value

variable {P : In} {be : Fin 96 → EReal} {V : Valuation τ sig (Elt Ideal)}

theorem along_last (b : Fin 2) (h w : Fin 64) (k0 k : Fin 32) :
    (ix4 b h w k0 : S2x64x64x32.Idx).along 3 k = ix4 b h w k := by
  funext a
  match a with
  | ⟨0, _⟩ => rfl
  | ⟨1, _⟩ => rfl
  | ⟨2, _⟩ => rfl
  | ⟨3, _⟩ => rfl

/-- A stable sort of numbered entries along the last axis, at an index. -/
theorem sort_last (c : EReal × BitVec 32 → EReal × BitVec 32 → BitVec 1) (x : S2x64x64x32.Idx → EReal)
    (y : S2x64x64x32.Idx → BitVec 32) (b : Fin 2) (h w : Fin 64) (k : Fin 32) :
    (Host.sort2 S2x64x64x32 3 c x y).2 (ix4 b h w k)
      = y (ix4 b h w (sortedFrom (fun k k' => c (x (ix4 b h w k), y (ix4 b h w k)) (x (ix4 b h w k'), y (ix4 b h w k')) == 1#1) k)) := by
  have e : ∀ k', (ix4 b h w k : S2x64x64x32.Idx).along 3 k' = ix4 b h w k' := along_last b h w k
  have h3 : 3 < S2x64x64x32.rank := by decide
  unfold Host.sort2
  rw [dif_pos h3]
  change y ((ix4 b h w k : S2x64x64x32.Idx).along 3 (sortedFrom (fun k₁ k₂ =>
    c (x ((ix4 b h w k : S2x64x64x32.Idx).along 3 k₁), y ((ix4 b h w k : S2x64x64x32.Idx).along 3 k₁))
      (x ((ix4 b h w k : S2x64x64x32.Idx).along 3 k₂), y ((ix4 b h w k : S2x64x64x32.Idx).along 3 k₂)) == 1#1) k)) = _
  simp only [e]
  rfl

/-- The positions of the five largest of negated roots: the picks of the numbers under the roots. -/
theorem top_five (x : FVec Ideal S2x64x64x32 .f32) (hf : S2x64x64x32.Slices (fun _ => 0) S2x64x64x5) (b : Fin 2) (h w : Fin 64)
    (d : Fin 32 → ℝ) (hd : ∀ k, 0 ≤ d k) (hx : ∀ k, x (ix4 b h w k) = ((-√(d k) : ℝ) : EReal)) (t : Fin 5) :
    (Host.topK S2x64x64x5 3 (FloatOps.cmpfTotal (F := Ideal) (φ := .f32) .gt) x hf).2 (ix4 b h w t)
      = BitVec.ofNat 32 (pick d t).val := by
  have hB := sortedFrom_key d (fun k k' => FloatOps.cmpfTotal (F := Ideal) (φ := .f32) .gt
      (x (ix4 b h w k)) (x (ix4 b h w k')) == 1#1) (by
    intro k k'
    rw [hx, hx]
    show (Ideal.cmp .ogt _ _ == 1#1) = _
    simp only [Ideal.cmp, EReal.coe_lt_coe_iff, neg_lt_neg_iff, Real.sqrt_lt_sqrt_iff (hd k)]
    by_cases h : d k < d k' <;> simp [h])
  unfold Host.topK
  pointwise
  rw [sort_last]
  unfold pick
  rw [← hB]
  rfl

theorem d2_nonneg (P : In) (b : Fin 2) (n : Fin 4096) (k : Fin 32) : 0 ≤ P.d2 b n k :=
  Finset.sum_nonneg fun _ _ => mul_self_nonneg _

/-- The word of a node's row, from the words of its number and its batch. -/
theorem node_word (b : Fin 2) (k : Fin 32) :
    IntOp.addi (BitVec.ofNat 32 k.val) (IntOp.muli (BitVec.ofNat 32 b.val) 32#32) = BitVec.ofNat 32 (node b k).val := by
  apply BitVec.eq_of_toNat_eq
  simp only [IntOp.addi, IntOp.muli, node, BitVec.toNat_add, BitVec.toNat_mul, BitVec.toNat_ofNat]
  omega

/-- The list of rows: by batch, rank and pixel. -/
theorem v112_real (H : RefReads P be V) (q : Fin 40960) :
    (res_main_v112 V : IVec S40960 32) (ix1 q)
      = BitVec.ofNat 32 (node ⟨q.val / 20480, by omega⟩ (P.sel ⟨q.val / 20480, by omega⟩ ⟨q.val % 4096, by omega⟩
          ⟨q.val % 20480 / 4096, by omega⟩)).val := by
  have h104 := v104_real H
  unfold res_main_v112
  clean_types
  generalize (res_main_v104 V : FVec Ideal S2x64x64x32 .f32) = u at *
  pointwise
  rw [top_five _ _ _ _ _ _ (d2_nonneg P _ _) (fun k => h104 _ _ _ k)]
  refine (node_word ⟨q.val / 20480, by omega⟩ _).trans ?_
  unfold In.sel
  have e1 : px ⟨q.val / 64 % 64, by omega⟩ ⟨q.val % 64, by omega⟩ = ⟨q.val % 4096, by omega⟩ := by
    apply Fin.ext; simp only [px]; omega
  have e2 : (⟨q.val / 4096 % 5, by omega⟩ : Fin 5) = ⟨q.val % 20480 / 4096, by omega⟩ := by
    apply Fin.ext; simp only; omega
  rw [e1, e2]

end GraphBlock
-- ==== Proof.RefOut.lean ====
/- The reference's second product, its normalisation and the result, at an index. -/
module

public import proofs.«01_k».proof.Proof.RefPick
public import Idealize.ShloMosaic.Lib.Routing.Ops

@[expose] public section

set_option maxRecDepth 16384

noncomputable section

namespace GraphBlock

open Idealize.ShloMosaic Cert.ReferenceIdeal Cert.ReferenceIdeal.Value

variable {P : In} {be : Fin 96 → EReal} {V : Valuation τ sig (Elt Ideal)}

/-- The image, once for each neighbour. -/
theorem v125_real (H : RefReads P be V) (b : Fin 2) (n : Fin 4096) (j : Fin 5) (c : Fin 96) :
    (res_main_v125 V : FVec Ideal S2x4096x5x96 .f32) (ix4 b n j c) = ((P.x b n c : ℝ) : EReal) := by
  have h90 := v90_real H
  unfold res_main_v125
  clean_types
  generalize (res_main_v90 V : FVec Ideal S2x96x4096 .f32) = v at *
  pointwise
  exact h90 _ _ _

/-- A row number that is not negative is left as it is. -/
theorem wrap_word (k : Fin 64) :
    Scalar.select (IntOp.cmpi .slt (BitVec.ofNat 32 k.val) 0#32) (IntOp.addi (BitVec.ofNat 32 k.val) 64#32) (BitVec.ofNat 32 k.val)
      = BitVec.ofNat 32 k.val := by
  have h : (BitVec.ofNat 32 k.val).slt 0#32 = false := by
    rw [BitVec.slt_zero_eq_msb, BitVec.msb_eq_false_iff_two_mul_lt, BitVec.toNat_ofNat]
    omega
  simp [Scalar.select, IntOp.cmpi, h]

/-- The neighbours' nodes, by row of the list. -/
theorem rows_real (H : RefReads P be V) (q : Fin 40960) (c : Fin 96) (t : FVec Ideal S64x96 .f32)
    (ht : ∀ k c, t (ix2 k c) = ((P.feat (bNode k) (kNode k) c : ℝ) : EReal)) (w : IVec S40960x1 32)
    (hw : w (ix2 q 0) = (res_main_v112 V : IVec S40960 32) (ix1 q)) :
    Host.gather gather_S64x96_S40960x1_S40960x96_1_0_n_n_0_1_196 t w (ix2 q c)
      = ((P.feat ⟨q.val / 20480, by omega⟩ (P.sel ⟨q.val / 20480, by omega⟩ ⟨q.val % 4096, by omega⟩
          ⟨q.val % 20480 / 4096, by omega⟩) c : ℝ) : EReal) := by
  rw [v112_real H] at hw
  refine (Routing.gather_row gather_S64x96_S40960x1_S40960x96_1_0_n_n_0_1_196 rfl rfl rfl rfl rfl t w q c _ hw (by decide)).trans ?_
  refine (ht _ c).trans ?_
  rw [bNode_node, kNode_node]

/-- The table of all nodes. -/
theorem table_ref (u : FVec Ideal S2x96x32 .f32) (hu : ∀ b c k, u (ix3 b c k) = ((P.feat b k c : ℝ) : EReal))
    (h1 : S2x96x32.Transposes [0, 2, 1] S2x32x96) (h2 : S2x32x96.ShapeCasts S64x96) (k : Fin 64) (c : Fin 96) :
    (shapeCast S64x96 (transpose S2x32x96 [0, 2, 1] u h1) h2 : FVec Ideal S64x96 .f32) (ix2 k c)
      = ((P.feat (bNode k) (kNode k) c : ℝ) : EReal) := by
  pointwise
  exact hu _ _ _

/-- The words the rows are looked up by. -/
theorem words_ref (i : IVec S40960 32) (k : Fin 64) (q : Fin 40960) (hi : i (ix1 q) = BitVec.ofNat 32 k.val)
    (h1 : S40960.BroadcastsInDim S40960x1 ![0]) (h2 : S_.BroadcastsInDim S40960 ![]) :
    (broadcastInDim S40960x1 ![0] h1 (select (cmpi .slt i (broadcastInDim S40960 ![] h2 (constantI S_ 32 0#32)))
      (addi i (broadcastInDim S40960 ![] h2 (constantI S_ 32 64#32))) i) : IVec S40960x1 32) (ix2 q 0) = i (ix1 q) := by
  pointwise
  rw [hi, wrap_word]

/-- The second product. -/
theorem v130_real (H : RefReads P be V) (b : Fin 2) (o : Fin 96) (n : Fin 4096) (j : Fin 5) :
    (res_main_v130 V : FVec Ideal S2x96x4096x5 .f32) (ix4 b o n j) = ((P.y b n j o : ℝ) : EReal) := by
  have h89 := v89_real H
  have h125 := v125_real H
  have hr := rows_real H
  have h112 := v112_real H
  have hW := H.hW1
  unfold res_main_v130
  clean_types
  generalize (res_main_v89 V : FVec Ideal S2x96x32 .f32) = u at *
  generalize (res_main_v125 V : FVec Ideal S2x4096x5x96 .f32) = v at *
  generalize (res_main_v112 V : IVec S40960 32) = i at *
  generalize (V (Proc.tc.devRef main_arg7) : FVec Ideal S96x192 .f32) = w at *
  pointwise
  simp only [h125, hW]
  have key : ∀ x : Fin 96, Host.gather gather_S64x96_S40960x1_S40960x96_1_0_n_n_0_1_196
      (shapeCast S64x96 (transpose S2x32x96 [0, 2, 1] u Gen.transposes_S2x96x32_S2x32x96_0_2_1)
        Gen.shapeCasts_S2x32x96_S64x96)
      (broadcastInDim S40960x1 ![0] Gen.bcast_S40960_S40960x1_0
        (select (cmpi CmpIPredicate.slt i (broadcastInDim S40960 ![] Gen.bcast_S_S40960 (constantI S_ 32 0#32)))
          (addi i (broadcastInDim S40960 ![] Gen.bcast_S_S40960 (constantI S_ 32 64#32))) i))
      (ix2 ⟨b.val * 20480 + n.val * 5 + j.val, by omega⟩ x) = ((P.feat b (P.nb b n j) x : ℝ) : EReal) := by
    intro x
    refine (hr _ x _ (table_ref u h89 _ _) _ (words_ref i _ _ (h112 _) _ _)).trans ?_
    unfold In.nb
    have e1 : (⟨(b.val * 20480 + n.val * 5 + j.val) / 20480, by omega⟩ : Fin 2) = b := by
      apply Fin.ext; simp only; omega
    have e2 : (⟨(b.val * 20480 + n.val * 5 + j.val) % 4096, by omega⟩ : Fin 4096) = ⟨(n.val * 5 + j.val) % 4096, by omega⟩ := by
      apply Fin.ext; simp only; omega
    have e3 : (⟨(b.val * 20480 + n.val * 5 + j.val) % 20480 / 4096, by omega⟩ : Fin 5)
        = ⟨(n.val * 5 + j.val) / 4096, by omega⟩ := by
      apply Fin.ext; simp only; omega
    rw [e1, e2, e3]
  simp only [key, ← EReal.coe_sub, ← EReal.coe_mul, sum_real, ← EReal.coe_add]
  rfl

end GraphBlock
-- ==== Proof.RefResult.lean ====
/- The reference's last normalisation and its result, at an index. -/
module

public import proofs.«01_k».proof.Proof.RefOut

@[expose] public section

set_option maxRecDepth 16384

noncomputable section

namespace GraphBlock

open Idealize.ShloMosaic Cert.ReferenceIdeal Cert.ReferenceIdeal.Gen Cert.ReferenceIdeal.Value

variable {P : In} {be : Fin 96 → EReal} {V : Valuation τ sig (Elt Ideal)}

/-- The mean of each channel. -/
theorem v134_real (H : RefReads P be V) (o : Fin 96) :
    (res_main_v134 V : FVec Ideal S1x96x1x1 .f32) (ix4 0 o 0 0) = ((P.mu1 o : ℝ) : EReal) := by
  have h := v130_real H
  unfold res_main_v134
  clean_types
  generalize (res_main_v130 V : FVec Ideal S2x96x4096x5 .f32) = u at *
  pointwise
  rw [reduce_but_second]
  simp only [h, lit_40960, sum_real, zero_add]
  rw [div_real (by norm_num), In.mu1]

theorem v136_real (H : RefReads P be V) (b : Fin 2) (o : Fin 96) (n : Fin 4096) (j : Fin 5) :
    (res_main_v136 V : FVec Ideal S2x96x4096x5 .f32) (ix4 b o n j) = ((P.y b n j o - P.mu1 o : ℝ) : EReal) := by
  have h := v130_real H
  have hm := v134_real H
  unfold res_main_v136
  clean_types
  generalize (res_main_v130 V : FVec Ideal S2x96x4096x5 .f32) = u at *
  generalize (res_main_v134 V : FVec Ideal S1x96x1x1 .f32) = m at *
  pointwise
  rw [h, hm, EReal.coe_sub]

/-- What the reference returns. -/
def refResult (V : Valuation τ sig (Elt Ideal)) : FVec Ideal S2x96x4096 .f32 :=
  addf (res_main_v90 V) (Host.reduce FloatOps.maximumf (maximumf (addf (mulf (Host.divf (subf (res_main_v130 V)
    (broadcastInDim S2x96x4096x5 ![0, 1, 2, 3] bcast_S1x96x1x1_S2x96x4096x5_0_1_2_3 (res_main_v134 V)))
    (broadcastInDim S2x96x4096x5 ![0, 1, 2, 3] bcast_S1x96x1x1_S2x96x4096x5_0_1_2_3 (Host.sqrt (addf (Host.divf
      (broadcastInDim S1x96x1x1 ![1] bcast_S96_S1x96x1x1_1 (Host.reduceAdd (mulf (res_main_v136 V) (res_main_v136 V))
        (constant S_ .f32 0x00000000#32) reducesTo_S2x96x4096x5_S96_d0_2_3 h_S_))
      (broadcastInDim S1x96x1x1 ![] bcast_S_S1x96x1x1 (constant S_ .f32 0x47200000#32)))
      (broadcastInDim S1x96x1x1 ![] bcast_S_S1x96x1x1 (constant S_ .f32 0x3727C5AC#32))))))
    (broadcastInDim S2x96x4096x5 ![0, 1, 2, 3] bcast_S1x96x1x1_S2x96x4096x5_0_1_2_3
      (broadcastInDim S1x96x1x1 ![1] bcast_S96_S1x96x1x1_1 (V (Proc.devRef .tc main_arg8)))))
    (broadcastInDim S2x96x4096x5 ![0, 1, 2, 3] bcast_S1x96x1x1_S2x96x4096x5_0_1_2_3
      (broadcastInDim S1x96x1x1 ![1] bcast_S96_S1x96x1x1_1 (V (Proc.devRef .tc main_arg9)))))
    (broadcastInDim S2x96x4096x5 ![] bcast_S_S2x96x4096x5 (constant S_ .f32 0x00000000#32)))
    (constant S_ .f32 0xFF800000#32) reducesTo_S2x96x4096x5_S2x96x4096_d3 h_S_)

/-- The result, at a batch, a channel and a pixel. -/
theorem refResult_real (H : RefReads P be V) (b : Fin 2) (o : Fin 96) (n : Fin 4096) :
    refResult V (ix3 b o n) = P.res be b n o := by
  have h := v130_real H
  have hm := v134_real H
  have h136 := v136_real H
  have h90 := v90_real H
  have hg := H.hg1
  have hb := H.hb1
  unfold refResult
  clean_types
  generalize (res_main_v90 V : FVec Ideal S2x96x4096 .f32) = x at *
  generalize (res_main_v130 V : FVec Ideal S2x96x4096x5 .f32) = u at *
  generalize (res_main_v134 V : FVec Ideal S1x96x1x1 .f32) = m at *
  generalize (res_main_v136 V : FVec Ideal S2x96x4096x5 .f32) = s at *
  generalize (V (Proc.tc.devRef main_arg8) : FVec Ideal S96 .f32) = g at *
  generalize (V (Proc.tc.devRef main_arg9) : FVec Ideal S96 .f32) = e at *
  pointwise
  rw [reduce_but_second]
  pointwise
  simp only [h, hm, h136, h90, hg, hb, lit_40960, lit_e5, lit_bot, ← EReal.coe_mul, sum_real, zero_add,
    fold_max_eq_sup]
  rw [div_real (by norm_num), ← EReal.coe_add]
  change (_ : EReal) + Finset.univ.sup (fun j : Fin 5 => max (Ideal.div _ (Ideal.sqrt ((P.va1 o + e5 : ℝ) : EReal)) * _ + _) _) = _
  rw [sqrt_real (P.va1_pos o).le]
  simp only [← EReal.coe_sub, div_real (Real.sqrt_pos.mpr (P.va1_pos o)).ne', ← EReal.coe_mul]
  rfl

end GraphBlock
-- ==== Proof.RefInputs.lean ====
/- The reference's arguments, equal to the kernel's, hold the same real numbers. -/
module

public import proofs.«01_k».proof.Proof.Inputs
public import proofs.«01_k».proof.Proof.RefResult

@[expose] public section

set_option maxRecDepth 16384

noncomputable section

namespace GraphBlock

open Idealize.ShloMosaic Cert.ReferenceIdeal

/-- The two spellings of a pixel: its line and column, from its number. -/
theorem px_line (h w : Fin 64) : (⟨(px h w).val / 64, by omega⟩ : Fin 64) = h := by
  ext; change (h.val * 64 + w.val) / 64 = h.val; omega

theorem px_column (h w : Fin 64) : (⟨(px h w).val % 64, by omega⟩ : Fin 64) = w := by
  ext; change (h.val * 64 + w.val) % 64 = w.val; omega

variable {a0 : FVec Ideal S2x96x64x64 .f32} {a1 : FVec Ideal S2x1x64x64 .f32} {a2 : FVec Ideal S96x96 .f32}
    {a3 a4 : FVec Ideal S96 .f32} {a5 a6 : FVec Ideal S32x96 .f32} {a7 : FVec Ideal S96x192 .f32} {a8 a9 : FVec Ideal S96 .f32}

/-- The contents of the reference's arguments hold the real numbers of the arrays they equal. -/
theorem refReads_of_finite (V : Valuation τ sig (Elt Ideal)) (H : FiniteArgs a0 a2 a3 a6 a7 a8)
    (e0 : V (Proc.devRef .tc main_arg0) = a0) (e1 : V (Proc.devRef .tc main_arg1) = a1) (e2 : V (Proc.devRef .tc main_arg2) = a2)
    (e3 : V (Proc.devRef .tc main_arg3) = a3) (e4 : V (Proc.devRef .tc main_arg4) = a4) (e5 : V (Proc.devRef .tc main_arg5) = a5)
    (e6 : V (Proc.devRef .tc main_arg6) = a6) (e7 : V (Proc.devRef .tc main_arg7) = a7) (e8 : V (Proc.devRef .tc main_arg8) = a8)
    (e9 : V (Proc.devRef .tc main_arg9) = a9) :
    RefReads (inOf a0 a1 a2 a3 a4 a5 a6 a7 a8) (fun o => a9 (ix1 o)) V where
  hx b c h w := by
    rw [e0, ← H.h0]
    simp only [inOf, px_line, px_column]
  hs b h w := by
    rw [e1, ← logistic_is_real]
    simp only [inOf, px_line, px_column]
  hW o i := by rw [e2, ← H.h2]; rfl
  hg o := by rw [e3, ← H.h3]; rfl
  hb o := by rw [e4]; rfl
  ha k c := by rw [e5]; rfl
  hp k c := by rw [e6]; exact sigm_real (H.h6 _)
  hW1 o i := by rw [e7, ← H.h7]; rfl
  hg1 o := by rw [e8, ← H.h8]; rfl
  hb1 o := by rw [e9]

end GraphBlock

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Pre_finite_inputs
public import proofs.«01_k».proof.Proof.KernelResult
public import proofs.«01_k».proof.Proof.RefInputs
public import Idealize.ShloMosaic.Adequacy
public import Idealize.ShloMosaic.Init

@[expose] public section

noncomputable section

namespace Cert.Proof

open Idealize.ShloMosaic Idealize.SL.Sem Cert.Kernel

/-- `Cert.quiescent_ReferenceIdeal`: the reference's run, read at its arguments; it declares no semaphore. -/
theorem frame_r : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

open GraphBlock

/-- The kernel's program and the reference, from memories holding the same arguments, end with equal results. -/
theorem equal_results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (H : FiniteMem m c) (V : Valuation Cert.ReferenceIdeal.τ Cert.ReferenceIdeal.sig (Elt Ideal))
    (hV : RefReads (memIn m c) (memOffset m c) V) : refResult V = Cert.KernelIdeal.Gen.kernelResult m c := by
  funext i
  rw [eq_ix3 i]
  exact (refResult_real hV _ _ _).trans (kernelResult_real H _ _ _).symm

/-- The values agree. -/
theorem algebraic : Cert.algebraic_KernelIdeal_ReferenceIdeal_pre_finite_inputs := by
  intro m g m' g' hpre hargs
  have H : ∀ c, FiniteMem m c := fun c => finiteArgs _ _ _ _ _ _ _ _ _ _ (hpre c)
  refine ⟨fun c => Cert.KernelIdeal.Gen.kernelResult m c, ?_, ?_⟩
  · refine (θ_run Cert.KernelIdeal.defs _ _).mono (fun r h c => ⟨((h c).1).trans (Cert.KernelIdeal.Gen.W4_result m g c), (h c).2⟩)
      (Cert.KernelIdeal.Gen.run (F := Ideal) m g)
  · refine (θ_run Cert.ReferenceIdeal.defs _ _).mono (fun r h c => ⟨((h c).1).trans ?_, (h c).2⟩)
      (Cert.ReferenceIdeal.Value.run (F := Ideal) m' g')
    obtain ⟨e0, e1, e2, e3, e4, e5, e6, e7, e8, e9⟩ := hargs c
    exact equal_results m m' c (H c) _ (refReads_of_finite _ (H c) e0 e1 e2 e3 e4 e5 e6 e7 e8 e9)

theorem claim : Cert.Claim := ⟨Cert.Kernel.Gen.facts, Cert.KernelIdeal.Gen.facts, Cert.ReferenceIdeal.Gen.facts,
  Cert.Pre_finite_inputs.facts,
  fun m ρ _ => Cert.Kernel.Gen.frame m ρ, fun m ρ _ => Cert.KernelIdeal.Gen.frame m ρ,
  fun m ρ _ => Cert.KernelIdeal.Gen.frame m ρ, frame_r, fun m ρ _ => frame_r m ρ trivial, trivial, algebraic⟩

end Cert.Proof

end
